-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64x25600 : Shape := ⟨2, ![64, 25600]⟩
abbrev S64 : Shape := ⟨1, ![64]⟩
abbrev S64x1 : Shape := ⟨2, ![64, 1]⟩

abbrev nBuf : Space → Nat
  | .hbm => 3
  | .vmem => 9
  | .smem => 0
  | _ => 0

abbrev bufTy : (tb : Table) → Fin (tcTables nBuf tb) → BufTy
  | .hbm, ⟨0, _⟩ => ⟨S64x1000000, .f32⟩
  | .hbm, ⟨1, _⟩ => ⟨S64x1000000, .f32⟩
  | .hbm, ⟨2, _⟩ => ⟨S64, .i32⟩
  | .local _ .vmem, ⟨0, _⟩ => ⟨S64x25600, .f32⟩
  | .local _ .vmem, ⟨1, _⟩ => ⟨S64x25600, .f32⟩
  | .local _ .vmem, ⟨2, _⟩ => ⟨S64x25600, .f32⟩
  | .local _ .vmem, ⟨3, _⟩ => ⟨S64x25600, .f32⟩
  | .local _ .vmem, ⟨4, _⟩ => ⟨S64x25600, .f32⟩
  | .local _ .vmem, ⟨5, _⟩ => ⟨S64x25600, .f32⟩
  | .local _ .vmem, ⟨6, _⟩ => ⟨S64, .i32⟩
  | .local _ .vmem, ⟨7, _⟩ => ⟨S64, .f32⟩
  | .local _ .vmem, ⟨8, _⟩ => ⟨S64, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_scratch0 : Ref sig .tc := ⟨.vmem, 7, rfl⟩
abbrev cc1_scratch1 : Ref sig .tc := ⟨.vmem, 8, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![40], ![false]⟩

def k1_cond3 (i : grid1.Coords) : BitVec 1 :=
  let arg0 : BitVec 32 := BitVec.ofNat 32 (i 0).val
  let c39_i32 : BitVec 32 := 39#32
  let v25 : BitVec 1 := Scalar.cmpi .eq arg0 c39_i32
  let v26 : BitVec 32 := Scalar.extui v25
  let c0_i32_9 : BitVec 32 := 0#32
  let v27 : BitVec 1 := Scalar.cmpi .ne v26 c0_i32_9
  v27

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S64x25600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x25600 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S64x1000000 : Shape := ⟨2, ![64, 1000000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 284
  | .vmem => 0
  | .smem => 0
  | _ => 0

abbrev hbmTy0_0 (i : Nat) : BufTy := match i % 128 with
  | 0 => ⟨S64x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S64x1000000, .i64⟩
  | 21 => ⟨S64x1000000, .i64⟩
  | 22 => ⟨S_, .i64⟩
  | 23 => ⟨S64x1000000, .i64⟩
  | 24 => ⟨S64x1000000, .i64⟩
  | 25 => ⟨S_, .i64⟩
  | 26 => ⟨S64x1000000, .i64⟩
  | 27 => ⟨S64x1000000, .i64⟩
  | 28 => ⟨S64x1000000, .i64⟩
  | 29 => ⟨S_, .i64⟩
  | 30 => ⟨S64x1000000, .i64⟩
  | 31 => ⟨S64x1000000, .i64⟩
  | 32 => ⟨S64x1000000, .i32⟩
  | 33 => ⟨S64x1000000, .i32⟩
  | 34 => ⟨S_, .i32⟩
  | 35 => ⟨S_, .i32⟩
  | 36 => ⟨S_, .i32⟩
  | 37 => ⟨S64x1000000, .i32⟩
  | 38 => ⟨S64x1000000, .i32⟩
  | 39 => ⟨S64x1000000, .i32⟩
  | 40 => ⟨S64x1000000, .i32⟩
  | 41 => ⟨S64x1000000, .i32⟩
  | 42 => ⟨S_, .i32⟩
  | 43 => ⟨S64x1000000, .i32⟩
  | 44 => ⟨S64x1000000, .i32⟩
  | 45 => ⟨S_, .i32⟩
  | 46 => ⟨S64x1000000, .i32⟩
  | 47 => ⟨S64x1000000, .i32⟩
  | 48 => ⟨S64x1000000, .i32⟩
  | 49 => ⟨S64x1000000, .i32⟩
  | 50 => ⟨S64x1000000, .i32⟩
  | 51 => ⟨S_, .i32⟩
  | 52 => ⟨S64x1000000, .i32⟩
  | 53 => ⟨S64x1000000, .i32⟩
  | 54 => ⟨S_, .i32⟩
  | 55 => ⟨S64x1000000, .i32⟩
  | 56 => ⟨S64x1000000, .i32⟩
  | 57 => ⟨S64x1000000, .i32⟩
  | 58 => ⟨S64x1000000, .i32⟩
  | 59 => ⟨S64x1000000, .i32⟩
  | 60 => ⟨S_, .i32⟩
  | 61 => ⟨S64x1000000, .i32⟩
  | 62 => ⟨S64x1000000, .i32⟩
  | 63 => ⟨S_, .i32⟩
  | 64 => ⟨S64x1000000, .i32⟩
  | 65 => ⟨S64x1000000, .i32⟩
  | 66 => ⟨S64x1000000, .i32⟩
  | 67 => ⟨S64x1000000, .i32⟩
  | 68 => ⟨S64x1000000, .i32⟩
  | 69 => ⟨S_, .i32⟩
  | 70 => ⟨S64x1000000, .i32⟩
  | 71 => ⟨S64x1000000, .i32⟩
  | 72 => ⟨S_, .i32⟩
  | 73 => ⟨S64x1000000, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S_, .i32⟩
  | 82 => ⟨S64x1000000, .i32⟩
  | 83 => ⟨S64x1000000, .i32⟩
  | 84 => ⟨S64x1000000, .i32⟩
  | 85 => ⟨S_, .i32⟩
  | 86 => ⟨S64x1000000, .i32⟩
  | 87 => ⟨S64x1000000, .i32⟩
  | 88 => ⟨S_, .i32⟩
  | 89 => ⟨S64x1000000, .i32⟩
  | 90 => ⟨S64x1000000, .i32⟩
  | 91 => ⟨S64x1000000, .i32⟩
  | 92 => ⟨S64x1000000, .i32⟩
  | 93 => ⟨S64x1000000, .i32⟩
  | 94 => ⟨S_, .i32⟩
  | 95 => ⟨S64x1000000, .i32⟩
  | 96 => ⟨S64x1000000, .i32⟩
  | 97 => ⟨S_, .i32⟩
  | 98 => ⟨S64x1000000, .i32⟩
  | 99 => ⟨S64x1000000, .i32⟩
  | 100 => ⟨S64x1000000, .i32⟩
  | 101 => ⟨S64x1000000, .i32⟩
  | 102 => ⟨S64x1000000, .i32⟩
  | 103 => ⟨S_, .i32⟩
  | 104 => ⟨S64x1000000, .i32⟩
  | 105 => ⟨S64x1000000, .i32⟩
  | 106 => ⟨S_, .i32⟩
  | 107 => ⟨S64x1000000, .i32⟩
  | 108 => ⟨S64x1000000, .i32⟩
  | 109 => ⟨S64x1000000, .i32⟩
  | 110 => ⟨S64x1000000, .i32⟩
  | 111 => ⟨S64x1000000, .i32⟩
  | 112 => ⟨S_, .i32⟩
  | 113 => ⟨S64x1000000, .i32⟩
  | 114 => ⟨S64x1000000, .i32⟩
  | 115 => ⟨S_, .i32⟩
  | 116 => ⟨S64x1000000, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S_, .i32⟩
  | 125 => ⟨S64x1000000, .i32⟩
  | 126 => ⟨S64x1000000, .i32⟩
  | 127 => ⟨S64x1000000, .i32⟩
  | _ => ⟨S64x1000000, .f32⟩

abbrev hbmTy0_1 (i : Nat) : BufTy := match i % 128 with
  | 0 => ⟨S_, .i32⟩
  | 1 => ⟨S64x1000000, .i32⟩
  | 2 => ⟨S64x1000000, .i32⟩
  | 3 => ⟨S_, .i32⟩
  | 4 => ⟨S64x1000000, .i32⟩
  | 5 => ⟨S64x1000000, .i32⟩
  | 6 => ⟨S64x1000000, .i32⟩
  | 7 => ⟨S64x1000000, .i32⟩
  | 8 => ⟨S64x1000000, .i32⟩
  | 9 => ⟨S_, .i32⟩
  | 10 => ⟨S64x1000000, .i32⟩
  | 11 => ⟨S64x1000000, .i32⟩
  | 12 => ⟨S_, .i32⟩
  | 13 => ⟨S64x1000000, .i32⟩
  | 14 => ⟨S64x1000000, .i32⟩
  | 15 => ⟨S64x1000000, .i32⟩
  | 16 => ⟨S64x1000000, .i32⟩
  | 17 => ⟨S64x1000000, .i32⟩
  | 18 => ⟨S_, .i32⟩
  | 19 => ⟨S64x1000000, .i32⟩
  | 20 => ⟨S64x1000000, .i32⟩
  | 21 => ⟨S_, .i32⟩
  | 22 => ⟨S64x1000000, .i32⟩
  | 23 => ⟨S64x1000000, .i32⟩
  | 24 => ⟨S64x1000000, .i32⟩
  | 25 => ⟨S64x1000000, .i32⟩
  | 26 => ⟨S64x1000000, .i32⟩
  | 27 => ⟨S_, .i32⟩
  | 28 => ⟨S64x1000000, .i32⟩
  | 29 => ⟨S64x1000000, .i32⟩
  | 30 => ⟨S_, .i32⟩
  | 31 => ⟨S64x1000000, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S64x1000000, .i32⟩
  | 38 => ⟨S64x1000000, .i32⟩
  | 39 => ⟨S_, .i32⟩
  | 40 => ⟨S64x1000000, .i32⟩
  | 41 => ⟨S64x1000000, .i32⟩
  | 42 => ⟨S64x1000000, .i32⟩
  | 43 => ⟨S_, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S64x1000000, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S_, .i32⟩
  | 56 => ⟨S64x1000000, .i32⟩
  | 57 => ⟨S64x1000000, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S_, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S64x1000000, .i32⟩
  | 93 => ⟨S64x1000000, .i32⟩
  | 94 => ⟨S64x1000000, .i32⟩
  | 95 => ⟨S_, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_2 (i : Nat) : BufTy := match i % 128 with
  | 0 => ⟨S64x1000000, .i32⟩
  | 1 => ⟨S_, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S64x1000000, .f32⟩
  | 8 => ⟨S_, .f32⟩
  | 9 => ⟨S64x1000000, .f32⟩
  | 10 => ⟨S64x1000000, .f32⟩
  | 11 => ⟨S1x1, .f32⟩
  | 12 => ⟨S64x1000000, .f32⟩
  | 13 => ⟨S64x1000000, .f32⟩
  | 14 => ⟨S64x1000000, .f32⟩
  | 15 => ⟨S64x1000000, .f32⟩
  | 16 => ⟨S64x1000000, .f32⟩
  | 17 => ⟨S64x1000000, .f32⟩
  | 18 => ⟨S64x1000000, .f32⟩
  | 19 => ⟨S64x1000000, .f32⟩
  | 20 => ⟨S64x1000000, .f32⟩
  | 21 => ⟨S64x1000000, .f32⟩
  | 22 => ⟨S64x1000000, .f32⟩
  | 23 => ⟨S64x1000000, .i32⟩
  | 24 => ⟨S_, .f32⟩
  | 25 => ⟨S_, .i32⟩
  | 26 => ⟨S64, .f32⟩
  | 27 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_call1_v0 : Ref sig .tc := ⟨.hbm, 279, rfl⟩
abbrev main_call1_cst : Ref sig .tc := ⟨.hbm, 280, rfl⟩
abbrev main_call1_c : Ref sig .tc := ⟨.hbm, 281, rfl⟩
abbrev main_call1_v1_0 : Ref sig .tc := ⟨.hbm, 282, rfl⟩
abbrev main_v9 : Ref sig .tc := ⟨.hbm, 283, rfl⟩

abbrev nD : Nat := 1
abbrev τ : Topo := Topo.v7x

variable {F : FTy → Type} [FloatOps F]
-- ==== Proof.NoiseIdeal.lean ====
/-
  The noise call (custom call 0) of the ideal kernel: what its body leaves in the staging buffer (`nzBlk`), its proof
  data and its body obligation. The body reads nothing: it computes one block of noise from the grid coordinate and
  stores it whole. The last block overhangs the array, so its transfer is cut; nothing is said of the columns past the
  end.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.Pipeline.Frame
public import Idealize.ShloMosaic.Lib.Pipeline.Value
public import Idealize.ShloMosaic.Lib.Tactic

@[expose] public section

set_option maxRecDepth 16384

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole memrefs read and written whole -/

/-- A load of a whole memref at offset zero reads its contents. -/
theorem whole_readAt {sp : Space} {s : Shape} {e : EltTy} (M : Memref sig .tc sp s e) (h : M.IsWhole) {off : Fin s.rank → Nat}
    (hz : off = fun _ => 0) (inb : ∀ a, off a + s.size a ≤ s.size a) (f : M.view.ty.Contents (Elt F)) :
    M.view.readAt (Elt F) (Rect.unit (s := s) off s.size inb).toLoadRect f = M.view.read (Elt F) f := by
  obtain ⟨b, rfl, rfl, rfl, hm⟩ := h; cases hm
  rw [Memref.readAt_unit_zero (Elt F) b hz]; rfl

/-- An unmasked store of a whole memref at offset zero leaves what it stored. -/
theorem whole_write {sp : Space} {s : Shape} {e : EltTy} (M : Memref sig .tc sp s e) (h : M.IsWhole) {off : Fin s.rank → Nat}
    (hz : off = fun _ => 0) (inb : ∀ a, off a + s.size a ≤ s.size a) (f : M.view.ty.Contents (Elt F)) (w : s.Idx → Elt F e) :
    M.view.read (Elt F) ((M.access (Rect.unit (s := s) off s.size inb) : View sig .tc _ _ _).write (Elt F) f w Finset.univ) = w := by
  obtain ⟨b, rfl, rfl, rfl, hm⟩ := h; cases hm
  have := Memref.write_access_unit_zero_univ (Elt F) b hz inb f w
  rw [this]; rfl

theorem zero2 : (![0, 0] : Fin 2 → Nat) = fun _ => 0 := by funext a; fin_cases a <;> rfl
theorem zero1 : (![0] : Fin 1 → Nat) = fun _ => 0 := by funext a; fin_cases a; rfl

/-! ## The body -/

/-- The block of noise the body computes at grid coordinates `i`. -/
def nzBlk (i : grid0.Coords) : FVec F S64x25600 .f32 :=
  let a := k0_pay23 (k0_pay10 i) (k0_pay11 i) k0_pay12
  let b := k0_pay24 (k0_pay10 i) (k0_pay11 i) k0_pay12
  k0_pay1 (k0_pay46 (k0_pay34 a b 15#32) (k0_pay35 a b 15#32)) (k0_pay47 (k0_pay34 a b 15#32) (k0_pay35 a b 15#32)) k0_pay48

/-- The body is one load nobody reads and one store of the block. -/
theorem noise_eq (i : grid0.Coords) (M : Memref sig .tc .vmem S64x25600 .f32) (h : M.IsWhole) :
    cc0__noise_kernel (F := F) i M h = (do
      let _ : Vec F S64x25600 .f32 ← Prog.lift (.load M (Rect.unit (s := S64x25600) ![0, 0] S64x25600.size inb_S64x25600_S64x25600_0_0).toLoadRect (View.loadsAt_vmem h_S64x25600))
      Prog.lift (.store M (Rect.unit (s := S64x25600) ![0, 0] S64x25600.size inb_S64x25600_S64x25600_0_0) (nzBlk (F := F) i) Finset.univ (View.stores_vmem_bits_univ h_S64x25600 rfl) (.inl rfl))
      pure ⟨⟩) := by
  rw [cc0__noise_kernel_eq_skeleton]
  unfold cc0__noise_kernel_skel nzBlk
  rw [k0_part1_eq_skeleton, k0_part2_eq_skeleton, k0_part3_eq_skeleton, k0_part4_eq_skeleton]
  rfl

theorem noise_body (c : Dev nD) (E : Set ℕ) (i : grid0.Coords) (M : Memref sig .tc .vmem S64x25600 .f32) (h : M.IsWhole)
    (X : S64x25600.Idx → Elt F .f32) (K : PUnit → sProp 𝕄) :
    iprop(owns (c : Thread nD τ) M fullShare X ∗ (owns (c : Thread nD τ) M fullShare (nzBlk (F := F) i) -∗ K ⟨⟩))
      ⊢ wp frame (wpE (defs₀ (F := F)) Variants.none c none) E (cc0__noise_kernel i M h) K := by
  have hw := fun f w => whole_write (F := F) M h zero2 inb_S64x25600_S64x25600_0_0 f w
  rw [noise_eq]
  generalize nzBlk (F := F) i = B
  simp only [Prog.lift, Prog.bind_op, Prog.bind_ret]
  unfold owns
  iintro ⟨⟨%f, %hf, H⟩, Hk⟩
  sl_steps
  iapply Hk
  iexists _
  isplitr; swap; (· iexact H)
  ipureintro; exact hw _ _

/-! ## The proof data of the noise call, at an entry valuation -/

variable (V : (c : Dev nD) → (b : Ref sig .tc) → Buf (Elt F) ((c : Thread nD τ).loc b))

abbrev 𝒱₀ : Variants := Variants.none

/-- The proof data: the array at the entry valuation, the staging buffer left at the block of noise; nothing owed. -/
def dat0 (c : Dev nD) : Dat τ (Elt F) Unit ℕ (UR sig nD τ) ℕ cfg0 c where
  A w := V c (Pipeline.arrRef spec0 w)
  after w t := match w with
    | ⟨0, _⟩ => nzBlk (F := F) (grid0.coords t)
  Φ _ := Pipeline.scopedRest (Ix := Unit) (Name := ℕ) (U := UR sig nD τ) (Lvl := ℕ) (Val := Elt F) spec0 c
  q _ := fullShare
  owed _ := 0

/-- The body obligation: the buffer is handed over at anything and comes back at the block. -/
theorem body_obligation0 (c : Dev nD) : BodyObligationLoose (dat0 V c) (defs₀ (F := F)) 𝒱₀ () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩⟩
  iapply (noise_body (F := F) c Set.univ (grid0.coords t) (stage0_0 (cfg0.slots t 0)) (hstage0_0 ((cfg0.slots t 0).cast nbuf0_0))
    ((dat0 V c).before 0 t d0) _)
  isplitl [H0]; · iexact H0
  iintro H0
  isplitl [HΦ]; · iexact HΦ
  isplitl [Ho]; · iexact Ho
  iexists nzBlk (F := F) (grid0.coords t)
  dsimp only [dat0]
  rw [Window.fill_cut]
  iexact H0

/-! ## The noise array after the call -/

theorem coords0 : ∀ t : Fin grid0.N, ((grid0.coords t) 0 : ℕ) = t.val := by decide +kernel
theorem index0_row : ∀ t : Fin grid0.N, win0_0.index t 0 = 0 := by decide +kernel
theorem index0_col : ∀ t : Fin grid0.N, win0_0.index t 1 = t.val := by decide +kernel
theorem xsize0_row : ∀ t : Fin grid0.N, win0_0.xsize (grid0.coords t) 0 = 64 := by decide +kernel
theorem xsize0_col : ∀ t : Fin grid0.N, win0_0.xsize (grid0.coords t) 1 = min 25600 (1000000 - 25600 * t.val) := by decide +kernel

/-- The block holding column `k`. -/
def colPt (k : ℕ) (h : k < 1000000) : Fin grid0.N := ⟨k / 25600, by rw [N_0]; omega⟩

/-- The noise array: each column from the block that holds it. -/
def nzArr : S64x1000000.Idx → Elt F .f32 := fun j =>
  nzBlk (F := F) (grid0.coords (colPt (j 1).val (j 1).isLt))
    (fun | 0 => (j 0 : Fin 64) | 1 => (⟨(j 1).val % 25600, Nat.mod_lt _ (by decide)⟩ : Fin 25600))

/-- What point `t` writes back is its block of the noise array. -/
theorem flushed0 (c : Dev nD) (t : Fin cfg0.N) :
    (dat0 V c).flushed 0 t = ((cfg0.win 0).blk t).view.read (Elt F) (nzArr (F := F)) := by
  funext y
  rw [View.read_apply]
  have h1 : (y 1 : ℕ) < win0_0.xsize (grid0.coords t) 1 := (y 1).isLt
  rw [xsize0_col] at h1
  have e0 := Window.rect_emb_val win0_0 t y 0
  have e1 := Window.rect_emb_val win0_0 t y 1
  rw [index0_row] at e0
  rw [index0_col] at e1
  change nzBlk (F := F) (grid0.coords t) (win0_0.xinj (grid0.coords t) y) = nzArr (F := F) ((win0_0.rect t).emb y)
  generalize (win0_0.rect t).emb y = z at e0 e1 ⊢
  have e0' : (z 0 : ℕ) = y 0 := by rw [e0, Nat.zero_mul, Nat.zero_add]
  have e1' : (z 1 : ℕ) = t.val * 25600 + y 1 := e1
  have ht : colPt (z 1).val (z 1).isLt = t := by
    apply Fin.ext; show (z 1).val / 25600 = t.val; omega
  unfold nzArr
  rw [ht]
  congr 1
  funext a
  match a with
  | ⟨0, _⟩ => exact Fin.ext e0'.symm
  | ⟨1, _⟩ => exact Fin.ext (show (y 1 : ℕ) = (z 1).val % 25600 by omega)

/-- Every element of the array is in the block of its column's point. -/
theorem cover0 (j : S64x1000000.Idx) : j ∈ ((cfg0.win 0).blk (colPt (j 1).val (j 1).isLt)).view.set := by
  show j ∈ ((View.whole main_v0).slice (win0_0.rect (colPt (j 1).val (j 1).isLt))).set
  rw [View.set_slice_whole, Rect.mem_set_unit]
  intro a
  have h0 : (j 0).val < 64 := (j 0).isLt
  have h1 : (j 1).val < 1000000 := (j 1).isLt
  match a with
  | ⟨0, _⟩ =>
    change win0_0.index (colPt (j 1).val (j 1).isLt) 0 * 64 ≤ (j 0 : ℕ) ∧ (j 0 : ℕ) < win0_0.index (colPt (j 1).val (j 1).isLt) 0 * 64 + win0_0.xsize (grid0.coords (colPt (j 1).val (j 1).isLt)) 0
    rw [index0_row, xsize0_row]; omega
  | ⟨1, _⟩ =>
    change win0_0.index (colPt (j 1).val (j 1).isLt) 1 * 25600 ≤ (j 1 : ℕ) ∧ (j 1 : ℕ) < win0_0.index (colPt (j 1).val (j 1).isLt) 1 * 25600 + win0_0.xsize (grid0.coords (colPt (j 1).val (j 1).isLt)) 1
    rw [index0_col, xsize0_col]
    show (j 1).val / 25600 * 25600 ≤ (j 1 : ℕ) ∧ (j 1 : ℕ) < (j 1).val / 25600 * 25600 + min 25600 (1000000 - 25600 * ((j 1).val / 25600))
    omega

/-- After the call the array holds the noise. -/
theorem arr0 (c : Dev nD) : (dat0 V c).arrAt 0 cfg0.N = nzArr (F := F) :=
  (dat0 V c).arrAt_eq_of_cover 0 (nzArr (F := F)) (fun t _ => flushed0 V c t)
    (fun j => ⟨colPt (j 1).val (j 1).isLt, flush0_0 _, cover0 j⟩)

end Cert.KernelIdeal.Pf

end
-- ==== Proof.ArgmaxIdeal.lean ====
/-
  The argmax call (custom call 1) of the ideal kernel: one point's step on the running maximum and its column, the
  proof data and the body obligation. The two scratch buffers carry the running pair from point to point (`acc`); the
  output buffer is stored at the last point only. The last blocks of the two inputs overhang their arrays: what their
  buffers hold past the end is anything, and the step does not read it, since the body masks those columns
  (`score_congr`).
-/
module

public import proofs.«01_k».proof.Proof.NoiseIdeal

@[expose] public section

set_option maxRecDepth 16384

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One point's step -/

/-- What the first scratch buffer holds after the point at `i`, from the two blocks and what it held. -/
def stepV (i : grid1.Coords) (x g : Vec F S64x25600 .f32) (v : Vec F S64 .f32) : Vec F S64 .f32 :=
  if (i 0).val = 0 then k1_pay5 i x g else k1_pay8 i x g v

/-- What the second holds. -/
def stepI (i : grid1.Coords) (x g : Vec F S64x25600 .f32) (v : Vec F S64 .f32) (k : Vec F S64 .i32) : Vec F S64 .i32 :=
  if (i 0).val = 0 then k1_pay6 i x g else k1_pay9 i x g v k

/-! ## The body's conditions -/

theorem cond_first : ∀ k : Fin 40, (Scalar.cmpi .ne (Scalar.extui (Scalar.cmpi .eq (BitVec.ofNat 32 k.val) 0#32) : BitVec 32) 0#32 = 1#1) ↔ k.val = 0 := by
  decide +kernel
theorem cond_later : ∀ k : Fin 40, (Scalar.cmpi .ne (Scalar.extui (Scalar.cmpi .sgt (BitVec.ofNat 32 k.val) 0#32) : BitVec 32) 0#32 = 1#1) ↔ k.val ≠ 0 := by
  decide +kernel
theorem cond_last : ∀ k : Fin 40, (Scalar.cmpi .ne (Scalar.extui (Scalar.cmpi .eq (BitVec.ofNat 32 k.val) 39#32) : BitVec 32) 0#32 = 1#1) ↔ k.val = 39 := by
  decide +kernel

theorem cond3_iff (i : grid1.Coords) : k1_cond3 i = 1#1 ↔ (i 0).val = 39 := cond_last (i 0)

/-! ## The body -/

theorem argmax_body (c : Dev nD) (E : Set ℕ) (i : grid1.Coords)
    (M1 : Memref sig .tc .vmem S64x25600 .f32) (h1 : M1.IsWhole) (M2 : Memref sig .tc .vmem S64x25600 .f32) (h2 : M2.IsWhole)
    (M3 : Memref sig .tc .vmem S64 .i32) (h3 : M3.IsWhole) (M4 : Memref sig .tc .vmem S64 .f32) (h4 : M4.IsWhole)
    (M5 : Memref sig .tc .vmem S64 .i32) (h5 : M5.IsWhole)
    (X1 X2 : S64x25600.Idx → Elt F .f32) (X3 : S64.Idx → Elt F .i32) (X4 : S64.Idx → Elt F .f32) (X5 : S64.Idx → Elt F .i32)
    (K : PUnit → sProp 𝕄) :
    iprop((owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5)
        ∗ (iprop(owns (c : Thread nD τ) M1 fullShare X1 ∗ owns (c : Thread nD τ) M2 fullShare X2
            ∗ owns (c : Thread nD τ) M3 fullShare (if (i 0).val = 39 then stepI i X1 X2 X4 X5 else X3)
            ∗ owns (c : Thread nD τ) M4 fullShare (stepV i X1 X2 X4) ∗ owns (c : Thread nD τ) M5 fullShare (stepI i X1 X2 X4 X5)) -∗ K ⟨⟩))
      ⊢ wp frame (wpE (defs₀ (F := F)) Variants.none c none) E (cc1__argmax_kernel i M1 h1 M2 h2 M3 h3 M4 h4 M5 h5) K := by
  have r1 := fun f => whole_readAt (F := F) M1 h1 zero2 inb_S64x25600_S64x25600_0_0 f
  have r2 := fun f => whole_readAt (F := F) M2 h2 zero2 inb_S64x25600_S64x25600_0_0 f
  have r3 := fun f => whole_readAt (F := F) M3 h3 zero1 inb_S64_S64_0 f
  have r4 := fun f => whole_readAt (F := F) M4 h4 zero1 inb_S64_S64_0 f
  have r5 := fun f => whole_readAt (F := F) M5 h5 zero1 inb_S64_S64_0 f
  have w3 := fun f w => whole_write (F := F) M3 h3 zero1 inb_S64_S64_0 f w
  have w4 := fun f w => whole_write (F := F) M4 h4 zero1 inb_S64_S64_0 f w
  have w5 := fun f w => whole_write (F := F) M5 h5 zero1 inb_S64_S64_0 f w
  rw [cc1__argmax_kernel_eq_skeleton]; unfold cc1__argmax_kernel_skel
  have c1 := cond_first (i 0)
  have c2 := cond_later (i 0)
  have c3 := cond3_iff i
  unfold stepV stepI
  by_cases hz : (i 0).val = 0
  · have hl : ¬ (i 0).val = 39 := by omega
    have d1 := c1.mpr hz
    have d2 := mt c2.mp (not_not_intro hz)
    have d3 := mt c3.mp hl
    simp only [dif_pos d1, dif_neg d2, dif_neg d3, Prog.lift, Prog.bind_op, Prog.bind_ret, if_pos hz, if_neg hl]
    unfold owns
    iintro ⟨⟨⟨%f1, %hf1, H1⟩, ⟨%f2, %hf2, H2⟩, ⟨%f3, %hf3, H3⟩, ⟨%f4, %hf4, H4⟩, ⟨%f5, %hf5, H5⟩⟩, Hk⟩
    subst hf1 hf2 hf3 hf4 hf5
    sl_steps
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; (· iexact H4)
      ipureintro; rw [w4, r1, r2]
    · iexists _; isplitr; swap; (· iexact H5)
      ipureintro; rw [w5, r1, r2]
  · have d1 := mt c1.mp hz
    have d2 := c2.mpr hz
    by_cases hl : (i 0).val = 39
    · have d3 := c3.mpr hl
      simp only [dif_neg d1, dif_pos d2, dif_pos d3, Prog.lift, Prog.bind_op, Prog.bind_ret, if_neg hz, if_pos hl]
      unfold owns
      iintro ⟨⟨⟨%f1, %hf1, H1⟩, ⟨%f2, %hf2, H2⟩, ⟨%f3, %hf3, H3⟩, ⟨%f4, %hf4, H4⟩, ⟨%f5, %hf5, H5⟩⟩, Hk⟩
      subst hf1 hf2 hf3 hf4 hf5
      sl_steps
      iapply Hk
      isplitl [H1]
      · iexists f1; isplitr; · ipureintro; rfl
        iexact H1
      isplitl [H2]
      · iexists f2; isplitr; · ipureintro; rfl
        iexact H2
      isplitl [H3]
      · iexists _; isplitr; swap; (· iexact H3)
        ipureintro; rw [w3, r5, w5, r1, r2, r4, r5]
      isplitl [H4]
      · iexists _; isplitr; swap; (· iexact H4)
        ipureintro; rw [w4, r1, r2, r4]
      · iexists _; isplitr; swap; (· iexact H5)
        ipureintro; rw [w5, r1, r2, r4, r5]
    · have d3 := mt c3.mp hl
      simp only [dif_neg d1, dif_pos d2, dif_neg d3, Prog.lift, Prog.bind_op, Prog.bind_ret, if_neg hz, if_neg hl]
      unfold owns
      iintro ⟨⟨⟨%f1, %hf1, H1⟩, ⟨%f2, %hf2, H2⟩, ⟨%f3, %hf3, H3⟩, ⟨%f4, %hf4, H4⟩, ⟨%f5, %hf5, H5⟩⟩, Hk⟩
      subst hf1 hf2 hf3 hf4 hf5
      sl_steps
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists _; isplitr; swap; (· iexact H4)
        ipureintro; rw [w4, r1, r2, r4]
      · iexists _; isplitr; swap; (· iexact H5)
        ipureintro; rw [w5, r1, r2, r4, r5]

/-! ## The columns and the masked score -/

/-- The column the body names at block index `j`. -/
theorem col_apply (i : grid1.Coords) (j : S64x25600.Idx) : k1_pay1 i j = BitVec.ofNat 32 ((j 1).val + 25600 * (i 0).val) := by
  have hi : (i 0).val < 40 := (i 0).isLt
  unfold k1_pay1
  show addi _ _ j = _
  unfold addi
  rw [iota_single_apply]
  show BitVec.ofNat 32 (j 1).val + BitVec.ofNat 32 (i 0).val * 25600#32 = _
  rw [show BitVec.ofNat 32 (i 0).val * 25600#32 = BitVec.ofNat 32 ((i 0).val * 25600) from (BitVec.ofNat_mul ..).symm, ← BitVec.ofNat_add, Nat.mul_comm]

theorem col_slt {n : ℕ} (h : n < 2 ^ 31) : (IntOp.cmpi .slt (BitVec.ofNat 32 n) 1000000#32 = 1#1) ↔ n < 1000000 := by
  have e : (BitVec.ofNat 32 n).toInt = n := by
    have hm : n % 4294967296 = n := Nat.mod_eq_of_lt (by omega)
    rw [BitVec.toInt_eq_toNat_of_lt (by rw [BitVec.toNat_ofNat]; omega), BitVec.toNat_ofNat]
    exact congrArg Nat.cast hm
  by_cases hn : n < 1000000
  · simp [IntOp.cmpi, BitVec.slt, e, hn]
  · simp [IntOp.cmpi, BitVec.slt, e, hn]

/-- The masked score: the sum inside the array, minus infinity past its end. -/
theorem score_apply (i : grid1.Coords) (x g : Vec F S64x25600 .f32) (j : S64x25600.Idx) :
    k1_pay2 i x g j = if (j 1).val + 25600 * (i 0).val < 1000000 then FloatOps.addf (x j) (g j) else Scalar.ofBits .f32 0xFF800000#32 := by
  have hi : (i 0).val < 40 := (i 0).isLt
  have hj : (j 1).val < 25600 := (j 1).isLt
  unfold k1_pay2
  rw [shapeCast_self]
  have hc := col_slt (n := (j 1).val + 25600 * (i 0).val) (by omega)
  rw [← col_apply] at hc
  by_cases h : (j 1).val + 25600 * (i 0).val < 1000000
  · rw [if_pos h]; exact if_pos (hc.mpr h)
  · rw [if_neg h]; exact if_neg (mt hc.mp h)

/-! ## The proof data of the argmax call, at an entry valuation -/

theorem coords1 : ∀ t : Fin grid1.N, ((grid1.coords t) 0 : ℕ) = t.val := by decide +kernel
theorem xsize1_0_row : ∀ t : Fin grid1.N, win1_0.xsize (grid1.coords t) 0 = 64 := by decide +kernel
theorem xsize1_0_col : ∀ t : Fin grid1.N, win1_0.xsize (grid1.coords t) 1 = min 25600 (1000000 - 25600 * t.val) := by decide +kernel
theorem xsize1_1_row : ∀ t : Fin grid1.N, win1_1.xsize (grid1.coords t) 0 = 64 := by decide +kernel
theorem xsize1_1_col : ∀ t : Fin grid1.N, win1_1.xsize (grid1.coords t) 1 = min 25600 (1000000 - 25600 * t.val) := by decide +kernel

theorem moved1_0 (t : Fin grid1.N) (j : S64x25600.Idx) (h : (j 1).val + 25600 * t.val < 1000000) : win1_0.moved (grid1.coords t) j = true := by
  rw [Window.moved_iff]
  intro a
  match a with
  | ⟨0, _⟩ => exact (xsize1_0_row t).symm ▸ (j 0).isLt
  | ⟨1, _⟩ =>
    have : (j 1).val < 25600 := (j 1).isLt
    exact (xsize1_0_col t).symm ▸ (show (j 1).val < min 25600 (1000000 - 25600 * t.val) by omega)
theorem moved1_1 (t : Fin grid1.N) (j : S64x25600.Idx) (h : (j 1).val + 25600 * t.val < 1000000) : win1_1.moved (grid1.coords t) j = true := by
  rw [Window.moved_iff]
  intro a
  match a with
  | ⟨0, _⟩ => exact (xsize1_1_row t).symm ▸ (j 0).isLt
  | ⟨1, _⟩ =>
    have : (j 1).val < 25600 := (j 1).isLt
    exact (xsize1_1_col t).symm ▸ (show (j 1).val < min 25600 (1000000 - 25600 * t.val) by omega)

/-- The masked score does not read what fills the buffers past the array's end. -/
theorem score_congr (t : Fin grid1.N) (d d' e e' : S64x25600.Idx → Elt F .f32)
    (x : (win1_0.xblock (grid1.coords t)).Idx → Elt F .f32) (g : (win1_1.xblock (grid1.coords t)).Idx → Elt F .f32) :
    k1_pay2 (grid1.coords t) (win1_0.fill (grid1.coords t) d x) (win1_1.fill (grid1.coords t) e g)
      = k1_pay2 (grid1.coords t) (win1_0.fill (grid1.coords t) d' x) (win1_1.fill (grid1.coords t) e' g) := by
  funext j
  rw [score_apply, score_apply, coords1]
  by_cases h : (j 1).val + 25600 * t.val < 1000000
  · rw [if_pos h, if_pos h]
    unfold Window.fill
    rw [dif_pos (moved1_0 t j h), dif_pos (moved1_1 t j h), dif_pos (moved1_0 t j h), dif_pos (moved1_1 t j h)]
  · rw [if_neg h, if_neg h]

theorem stepV_congr (i : grid1.Coords) {x g x' g' : Vec F S64x25600 .f32} (h : k1_pay2 i x g = k1_pay2 i x' g') (v : Vec F S64 .f32) :
    stepV i x g v = stepV i x' g' v := by
  simp only [stepV, k1_pay5, k1_pay8, k1_pay7, k1_pay3, h]
theorem stepI_congr (i : grid1.Coords) {x g x' g' : Vec F S64x25600 .f32} (h : k1_pay2 i x g = k1_pay2 i x' g') (v : Vec F S64 .f32)
    (k : Vec F S64 .i32) : stepI i x g v k = stepI i x' g' v k := by
  simp only [stepI, k1_pay6, k1_pay9, k1_pay7, k1_pay4, k1_pay3, h]

variable (V : (c : Dev nD) → (b : Ref sig .tc) → Buf (Elt F) ((c : Thread nD τ).loc b))

/-- The two blocks at point `t`, filled out past the array's end with a word nothing reads. -/
def xB (c : Dev nD) (t : Fin cfg1.N) : S64x25600.Idx → Elt F .f32 :=
  win1_0.fill (grid1.coords t) (fun _ => Scalar.ofBits .f32 0#32) ((win1_0.blk t).view.read (Elt F) (V c main_arg0))
def gB (c : Dev nD) (t : Fin cfg1.N) : S64x25600.Idx → Elt F .f32 :=
  win1_1.fill (grid1.coords t) (fun _ => Scalar.ofBits .f32 0#32) ((win1_1.blk t).view.read (Elt F) (V c main_v0))

/-- The running pair after the first `n` points. -/
def acc (c : Dev nD) : ℕ → Vec F S64 .f32 × Vec F S64 .i32
  | 0 => (fun _ => Scalar.ofBits .f32 0#32, fun _ => 0#32)
  | n + 1 =>
    if h : n < cfg1.N then
      (stepV (grid1.coords ⟨n, h⟩) (xB V c ⟨n, h⟩) (gB V c ⟨n, h⟩) (acc c n).1,
       stepI (grid1.coords ⟨n, h⟩) (xB V c ⟨n, h⟩) (gB V c ⟨n, h⟩) (acc c n).1 (acc c n).2)
    else acc c n

theorem acc_succ (c : Dev nD) (t : Fin cfg1.N) : acc V c (t.val + 1)
    = (stepV (grid1.coords t) (xB V c t) (gB V c t) (acc V c t.val).1, stepI (grid1.coords t) (xB V c t) (gB V c t) (acc V c t.val).1 (acc V c t.val).2) := by
  rw [acc, dif_pos t.isLt]

/-- Between points: the noise call's staging buffers at anything, the scratch buffers at the running pair once a point
    has run. -/
def Φ1 (c : Dev nD) (n : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ ∃ (v : Vec F S64 .f32) (k : Vec F S64 .i32), ⌜n ≠ 0 → v = (acc V c n).1 ∧ k = (acc V c n).2⌝
        ∗ owns (c : Thread nD τ) (Memref.whole cc1_scratch0) fullShare v ∗ owns (c : Thread nD τ) (Memref.whole cc1_scratch1) fullShare k)

/-- The proof data: the arrays at the entry valuation; the input buffers left as fetched, the output's at the running
    column after the last point. -/
def dat1 (c : Dev nD) : Dat τ (Elt F) Unit ℕ (UR sig nD τ) ℕ cfg1 c where
  A w := V c (Pipeline.arrRef spec1 w)
  after w t := match w with
    | ⟨0, _⟩ => xB V c t
    | ⟨1, _⟩ => gB V c t
    | ⟨2, _⟩ => (acc V c 40).2
  Φ t := Φ1 V c t.val
  q _ := fullShare
  owed _ := 0

theorem before1_0 (c : Dev nD) (t : Fin cfg1.N) (d) :
    (dat1 V c).before (0 : Fin 3) t d = win1_0.fill (grid1.coords t) d ((win1_0.blk t).view.read (Elt F) (V c main_arg0)) := by
  unfold Dat.before; rw [if_pos (fetch1_0 t)]; rfl
theorem before1_1 (c : Dev nD) (t : Fin cfg1.N) (d) :
    (dat1 V c).before (1 : Fin 3) t d = win1_1.fill (grid1.coords t) d ((win1_1.blk t).view.read (Elt F) (V c main_v0)) := by
  unfold Dat.before; rw [if_pos (fetch1_1 t)]; rfl

theorem cut_xB (c : Dev nD) (t : Fin cfg1.N) : win1_0.cut (grid1.coords t) (xB V c t) = (win1_0.blk t).view.read (Elt F) (V c main_arg0) :=
  win1_0.cut_fill _ _ _
theorem cut_gB (c : Dev nD) (t : Fin cfg1.N) : win1_1.cut (grid1.coords t) (gB V c t) = (win1_1.blk t).view.read (Elt F) (V c main_v0) :=
  win1_1.cut_fill _ _ _

/-- One step's pair from whatever the scratch buffers held, filled out by whatever the fetches left. -/
theorem step_acc (c : Dev nD) (t : Fin cfg1.N) (d0 d1 : S64x25600.Idx → Elt F .f32) (v : Vec F S64 .f32) (k : Vec F S64 .i32)
    (h : t.val ≠ 0 → v = (acc V c t.val).1 ∧ k = (acc V c t.val).2) :
    stepV (grid1.coords t) (win1_0.fill (grid1.coords t) d0 ((win1_0.blk t).view.read (Elt F) (V c main_arg0)))
        (win1_1.fill (grid1.coords t) d1 ((win1_1.blk t).view.read (Elt F) (V c main_v0))) v = (acc V c (t.val + 1)).1
    ∧ stepI (grid1.coords t) (win1_0.fill (grid1.coords t) d0 ((win1_0.blk t).view.read (Elt F) (V c main_arg0)))
        (win1_1.fill (grid1.coords t) d1 ((win1_1.blk t).view.read (Elt F) (V c main_v0))) v k = (acc V c (t.val + 1)).2 := by
  rw [acc_succ]
  have hs := score_congr (F := F) t d0 (fun _ => Scalar.ofBits .f32 0#32) d1 (fun _ => Scalar.ofBits .f32 0#32)
    ((win1_0.blk t).view.read (Elt F) (V c main_arg0)) ((win1_1.blk t).view.read (Elt F) (V c main_v0))
  refine ⟨(stepV_congr _ hs _).trans ?_, (stepI_congr _ hs _ _).trans ?_⟩
  · by_cases h0 : t.val = 0
    · have := (coords1 t).trans h0
      show stepV _ (xB V c t) (gB V c t) _ = stepV _ _ _ _
      unfold stepV; rw [if_pos this, if_pos this]
    · rw [(h h0).1]; rfl
  · by_cases h0 : t.val = 0
    · have := (coords1 t).trans h0
      show stepI _ (xB V c t) (gB V c t) _ _ = stepI _ _ _ _ _
      unfold stepI; rw [if_pos this, if_pos this]
    · rw [(h h0).1, (h h0).2]; rfl

theorem idle_two (t : Fin cfg1.N) (h : t.val ≠ 39) : idle1 2 (grid1.coords t) = true := by
  have h3 : k1_cond3 (grid1.coords t) ≠ 1#1 := fun e => h ((coords1 t).symm.trans ((cond3_iff _).mp e))
  show (!(k1_cond3 (grid1.coords t) == 1#1)) = true
  simp [h3]
theorem busy_two (t : Fin cfg1.N) (h : t.val = 39) : idle1 2 (grid1.coords t) = false := by
  have h3 : k1_cond3 (grid1.coords t) = 1#1 := (cond3_iff _).mpr ((coords1 t).trans h)
  show (!(k1_cond3 (grid1.coords t) == 1#1)) = false
  simp [h3]

/-- The body obligation: the inputs come back as fetched, the scratch buffers at the next running pair, the output's
    buffer as found until the last point, which leaves the running column in it. -/
theorem body_obligation1 (c : Dev nD) : BodyObligationLoose (dat1 V c) (defs₀ (F := F)) 𝒱₀ () Set.univ := fun t => by
  have ht : t.val < 40 := t.isLt.trans_eq N_1
  rw [bigSep_W1, bigSep_W1]
  simp only
  rw [show (dat1 V c).Φ t.succ = Φ1 V c (t.val + 1) from rfl, show (dat1 V c).Φ t.castSucc = Φ1 V c t.val from rfl,
    show (dat1 V c).owesAt () t.succ = (dat1 V c).owesAt () t.castSucc from rfl]
  unfold Φ1
  iintro ⟨⟨Hg0, Hg1, %v, %k, %hvk, H4, H5⟩, Ho, ⟨%d0, H0⟩, ⟨%d1, H1⟩, ⟨%d2, H2⟩⟩
  rw [before1_0, before1_1]
  obtain ⟨hV, hI⟩ := step_acc V c t d0 d1 v k hvk
  iapply (argmax_body (F := F) c Set.univ (grid1.coords t) (stage1_0 (cfg1.slots t 0)) (hstage1_0 ((cfg1.slots t 0).cast nbuf1_0))
    (stage1_1 (cfg1.slots t 1)) (hstage1_1 ((cfg1.slots t 1).cast nbuf1_1)) (stage1_2 (cfg1.slots t 2)) (hstage1_2 ((cfg1.slots t 2).cast nbuf1_2))
    (Memref.whole cc1_scratch0) (Memref.isWhole_whole _) (Memref.whole cc1_scratch1) (Memref.isWhole_whole _) _ _ ((dat1 V c).before 2 t d2) v k _)
  isplitl [H0 H1 H2 H4 H5]
  · isplitl [H0]; · iexact H0
    isplitl [H1]; · iexact H1
    isplitl [H2]; · iexact H2
    isplitl [H4]; · iexact H4
    iexact H5
  rw [hV, hI, coords1]
  iintro ⟨H0, H1, H2, H4, H5⟩
  isplitl [Hg0 Hg1 H4 H5]
  · isplitl [Hg0]; · iexact Hg0
    isplitl [Hg1]; · iexact Hg1
    iexists _, _
    isplitr; · ipureintro; exact fun _ => ⟨rfl, rfl⟩
    isplitl [H4]; · iexact H4
    iexact H5
  isplitl [Ho]; · iexact Ho
  isplitl [H0]
  · iexists d0
    rw [show (win1 0).cut (grid1.coords t) ((dat1 V c).after 0 t) = _ from cut_xB V c t]; iexact H0
  isplitl [H1]
  · iexists d1
    rw [show (win1 1).cut (grid1.coords t) ((dat1 V c).after 1 t) = _ from cut_gB V c t]; iexact H1
  by_cases h : t.val = 39
  · rw [if_pos h, busy_two t h, h]
    iexact H2
  · rw [if_neg h, idle_two t h, show (win1 2).flush t = false from Bool.eq_false_iff.mpr fun hf => by have := (flush1_2 t).mp hf; omega]
    iexists d2
    iexact H2

/-! ## The output array after the call -/

def lastPt : Fin cfg1.N := ⟨39, by rw [show cfg1.N = 40 from N_1]; decide⟩

theorem index1_2 : ∀ t : Fin grid1.N, win1_2.index t 0 = 0 := by decide +kernel
theorem xsize1_2 : ∀ t : Fin grid1.N, win1_2.xsize (grid1.coords t) 0 = 64 := by decide +kernel

/-- The output array after the call: the running column after the last point. -/
theorem arr1 (c : Dev nD) : (dat1 V c).arrAt 2 cfg1.N = (acc V c 40).2 := by
  generalize hA : (acc V c 40).2 = A
  refine (dat1 V c).arrAt_eq_of_cover 2 A (fun t _ => ?_) (fun j => ⟨lastPt, (flush1_2 _).mpr rfl, ?_⟩)
  · funext y
    rw [View.read_apply]
    have e0 := Window.rect_emb_val win1_2 t y 0
    rw [index1_2, Nat.zero_mul, Nat.zero_add] at e0
    have hf : (dat1 V c).flushed 2 t = fun y => (dat1 V c).after 2 t (win1_2.xinj (grid1.coords t) y) := rfl
    have ha : (dat1 V c).after 2 t = A := hA
    rw [hf, ha]
    refine congrArg A ?_
    funext a
    match a with
    | ⟨0, _⟩ => exact Fin.ext e0.symm
  · show j ∈ ((View.whole main_v1).slice (win1_2.rect lastPt)).set
    rw [View.set_slice_whole, Rect.mem_set_unit]
    intro a
    have h0 : (j 0).val < 64 := (j 0).isLt
    match a with
    | ⟨0, _⟩ =>
      change win1_2.index lastPt 0 * 64 ≤ (j 0 : ℕ) ∧ (j 0 : ℕ) < win1_2.index lastPt 0 * 64 + win1_2.xsize (grid1.coords lastPt) 0
      rw [index1_2, xsize1_2]; omega

end Cert.KernelIdeal.Pf

end
-- ==== Proof.RunIdeal.lean ====
/-
  The ideal kernel's two calls in a row: each call's region record over the thread state (the unscoped buffers at a
  valuation, and what the core owes), and the run they give: the result is the running column after the last block of
  the argmax call (`outArr`), the argument is unchanged and every semaphore counter is zero.
-/
module

public import proofs.«01_k».proof.Proof.ArgmaxIdeal
public import Idealize.ShloMosaic.Lib.Pipeline.RegionsLoop

@[expose] public section

set_option maxRecDepth 16384

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RegionSeg Seg)

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

variable (m : (ℓ : Loc nD τ sig) → Buf (Elt F) ℓ)

/-! ## The valuations between the calls -/

/-- As launched. -/
abbrev W0 (c : Dev nD) : Valuation τ sig (Elt F) := V0 m c
/-- After the noise call. -/
def W1 (c : Dev nD) : Valuation τ sig (Elt F) := Function.update (W0 m c) (Proc.devRef .tc main_v0) (nzArr (F := F))

theorem W1_noise (c : Dev nD) : W1 m c main_v0 = nzArr (F := F) := Function.update_self ..
theorem W1_of (c : Dev nD) (r : Ref sig .tc) (h : r ≠ main_v0) : W1 m c r = W0 m c r := by
  unfold W1
  exact Function.update_of_ne (StableHlo.devRef_ne_of_ne h) ..

/-- The result: the running column after the argmax call's last block. -/
def outArr (c : Dev nD) : S64.Idx → Elt F .i32 := (acc (fun c b => W1 m c b) c 40).2

/-- After the argmax call. -/
def W2 (c : Dev nD) : Valuation τ sig (Elt F) := Function.update (W1 m c) (Proc.devRef .tc main_v1) (outArr m c)

theorem W2_out (c : Dev nD) : W2 m c main_v1 = outArr m c := Function.update_self ..
theorem W2_of (c : Dev nD) (r : Ref sig .tc) (h : r ≠ main_v1) : W2 m c r = W1 m c r := by
  unfold W2
  exact Function.update_of_ne (StableHlo.devRef_ne_of_ne h) ..
theorem W2_arg (c : Dev nD) : W2 m c main_arg0 = m ((c : Thread nD τ).loc main_arg0) :=
  (W2_of m c main_arg0 (by decide)).trans (W1_of m c main_arg0 (by decide))

/-- The proof data of the two calls. -/
def pdats : (p : Fin 2) → (c : Dev nD) → Dat τ (Elt F) Unit ℕ (UR sig nD τ) ℕ (cfgs p) c
  | ⟨0, _⟩ => fun c => dat0 (fun c b => W0 m c b) c
  | ⟨1, _⟩ => fun c => dat1 (fun c b => W1 m c b) c

/-! ## The records -/

set_option backward.isDefEq.respectTransparency.types false in
/-- The noise call: entered with the unscoped buffers as launched, left with the noise array in its place. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (fun c b => W0 m c b) c
  hwaits := Pipeline.hwaits_of_owed_zero _ _ _ _ L lv 0 fun _ _ => rfl
  pre c := iprop(unscopedBufs c (fun b => W0 m c b) ∗ ∃ W, owes (c : Thread nD τ) (0 : CellTallies nD τ sig Unit) W)
  post c := iprop(unscopedBufs c (fun b => W1 m c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => W0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W0 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => W0 m c b) (fun b => W1 m c b) ((pdats m 0 c).arrAt · cfg0.N)
      (fun w => by
        fin_cases w
        exact (arr0 (fun c b => W0 m c b) c).trans (W1_noise m c).symm)
      (fun b hb => W1_of m c b fun h => hb (h ▸ Finset.mem_image.mpr ⟨0, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The argmax call: entered with the noise array in place, left with the result in its place. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (fun c b => W1 m c b) c
  hwaits := Pipeline.hwaits_of_owed_zero _ _ _ _ L lv 1 fun _ _ => rfl
  pre c := iprop(unscopedBufs c (fun b => W1 m c b) ∗ ∃ W, owes (c : Thread nD τ) (0 : CellTallies nD τ sig Unit) W)
  post c := iprop(unscopedBufs c (fun b => W2 m c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => W1 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Φ1 (fun c b => W1 m c b) c 0 from rfl,
      show Pipeline.scopedRest (Pipeline.pin pcfgs adm 1).spec c = (Pipeline.scopedRest spec1 c : sProp 𝕄) from rfl, scopedRest1_eq]
    unfold Φ1
    simp only [owns_whole_eq]
    iintro ⟨-, -, H0, H1, ⟨%v, H4⟩, ⟨%k, H5⟩⟩
    isplitl [H0]; · iexact H0
    isplitl [H1]; · iexact H1
    iexists v, k
    isplitr; · ipureintro; exact fun h => absurd rfl h
    isplitl [H4]
    · iexists v; isplitr; swap; (· iexact H4); ipureintro; rfl
    · iexists k; isplitr; swap; (· iexact H5); ipureintro; rfl
  hout c := by
    rw [Pipeline.ownSems0_none, show (pdats m 1 c).Φ (Fin.last _) = Φ1 (fun c b => W1 m c b) c cfg1.N from rfl,
      show Pipeline.scopedRest (Pipeline.pin pcfgs adm 1).spec c = (Pipeline.scopedRest spec1 c : sProp 𝕄) from rfl, scopedRest1_eq]
    unfold Φ1
    simp only [owns_whole_eq]
    iintro ⟨H0, H1, %v, %k, -, ⟨%v', -, H4⟩, ⟨%k', -, H5⟩⟩
    isplitr; · iempintro
    isplitr; · iempintro
    isplitl [H0]; · iexact H0
    isplitl [H1]; · iexact H1
    isplitl [H4]; · iexists v'; iexact H4
    iexists k'; iexact H5
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => W1 m c b) (fun b => W2 m c b) ((pdats m 1 c).arrAt · cfg1.N)
      (fun w => by
        fin_cases w
        · exact ((pdats m 1 c).arrAt_in 0 rfl _).trans (W2_of m c main_arg0 (by decide)).symm
        · exact ((pdats m 1 c).arrAt_in 1 rfl _).trans (W2_of m c main_v0 (by decide)).symm
        · exact (arr1 (fun c b => W1 m c b) c).trans (W2_out m c).symm)
      (fun b hb => W2_of m c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- What rides beside the buffers: what the core owes. -/
abbrev Eo (_ : Fin 3) (c : Dev nD) : sProp 𝕄 := iprop(∃ W, owes (c : Thread nD τ) (0 : CellTallies nD τ sig Unit) W)

set_option backward.isDefEq.respectTransparency.types false in
/-- Every weakly fair run of the kernel ends with the result at `outArr`, the argument as launched and every counter
    at zero. -/
theorem run (ρ : Dev nD → PrngReg) :
    θ_run defs (onTc (τ := τ) (main (F := F))) ⟨m, fun _ => 0, ρ⟩ (fun r => (∀ c : Dev nD,
      r.2.mem ((c.tc : Thread nD τ).loc main_v1) = outArr m c
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj (emb₁ (Ix := Unit) (Val := Elt F) (Name := ℕ) (Lvl := ℕ)) defs₀ 𝒱₀ L lv m ρ main
    (segs 𝒱₀ L lv Eo () (pdats m) (reg0 m) (reg1 m))
    (fun c Q => by
      rewrite [main_chain c, Seg.run_eq_chain,
        show (segs 𝒱₀ L lv Eo () (pdats m) (reg0 m) (reg1 m) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj)) ?hu
    (T₀ := fun c => iprop(unscopedBufs c (fun b => W0 m c b) ∗ Eo 0 c))
    (Tₙ := fun c => unscopedBufs c (fun b => W2 m c b))
    (hch := fun c => ⟨.rfl, .rfl, .rfl⟩)
    (hinit := ?_) (QY := fun c s => s.mem ((c.tc : Thread nD τ).loc main_v1) = outArr m c
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  case hu =>
    have h1 : (ownU (initOf (Pipeline.cells cfgs cellOf_inj) (Pipeline.launchToks cfgs cellOf_inj)) : sProp 𝕄)
        ⊢ BI.own ((emb₁ (Ix := Unit) (Val := Elt F) (Name := ℕ) (Lvl := ℕ)) (initOf (Pipeline.cells (Pipeline.pin (pcfgs (F := F)) adm) cellOf_inj) (Pipeline.launchToks (Pipeline.pin (pcfgs (F := F)) adm) cellOf_inj))) :=
      BI.Entails.refl _
    iintro H
    imodintro
    isplitl [H]; · iapply h1; iexact H
    rw [bigSep_emp_const]; iempintro
  · have hc : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄))
        ⊢ (iprop(unscopedBufs c (fun b => W0 m c b) ∗ Eo 0 c) : sProp 𝕄) := fun c => by
      iintro ⟨H, -, HO, -⟩
      isplitl [H]; · iexact H
      iexists ∅; iexact HO
    iintro ⟨H, -⟩
    imodintro
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (bigSep Finset.univ fun c : Dev nD => iprop(unscopedBufs c (fun b => W0 m c b) ∗ Eo 0 c) : sProp 𝕄) := bigSep_mono fun c _ => hc c
    iapply hall
    iexact H
  · rw [Pipeline.unscopedBufs_held (Ix := Unit) (Name := ℕ) (U := UR sig nD τ) (Lvl := ℕ) c (W2 m c)]
    unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨(h (Proc.devRef .tc main_v1) (Finset.mem_filter.mpr ⟨StableHlo.devRef_mem_tcRefs main_v1, by decide⟩)).trans (W2_out m c),
        (h (Proc.devRef .tc main_arg0) (Finset.mem_filter.mpr ⟨StableHlo.devRef_mem_tcRefs main_arg0, by decide⟩)).trans (W2_arg m c)⟩
    · iexact HSI

end Cert.KernelIdeal.Pf

end
-- ==== Proof.Words.lean ====
/-
  The random words of the noise, one word at a time: twenty rounds of adding, rotating and xoring a pair of
  words (key `(0, 42)`, counter `(0, lo)`), with a key injection after every fourth round; the bits are the xor
  of the two final words.  Both programs are read against these definitions.
-/
module

public import Idealize.ShloMosaic.PureOps.Ideal.Laws

@[expose] public section

noncomputable section

namespace Cert.Words

abbrev W := BitVec 32

/-- A rotation, spelled as two shifts. -/
def rot (l r : W) (b : W) : W := b <<< l ||| b >>> r

/-- One round; the first word of the state already holds the sum that begins it. -/
def q (l r : W) (s : W × W) : W × W :=
  (s.1 + (s.1 ^^^ rot l r s.2), s.1 ^^^ rot l r s.2)

/-- A round, a key injection, and the sum that begins the next round. -/
def qk (l r k k' i : W) (s : W × W) : W × W :=
  (s.1 + k + ((s.1 ^^^ rot l r s.2) + k' + i), (s.1 ^^^ rot l r s.2) + k' + i)

/-- The last round and the last key injection. -/
def qe (l r k k' i : W) (s : W × W) : W × W :=
  (s.1 + k, (s.1 ^^^ rot l r s.2) + k' + i)

/-- The third key word. -/
abbrev ks : W := 466689008#32

def s0 (lo : W) : W × W := (0#32 + 0#32 + (lo + 42#32), lo + 42#32)
def s1 (lo : W) : W × W := q 13#32 19#32 (s0 lo)
def s2 (lo : W) : W × W := q 15#32 17#32 (s1 lo)
def s3 (lo : W) : W × W := q 26#32 6#32 (s2 lo)
def s4 (lo : W) : W × W := qk 6#32 26#32 42#32 ks 1#32 (s3 lo)
def s5 (lo : W) : W × W := q 17#32 15#32 (s4 lo)
def s6 (lo : W) : W × W := q 29#32 3#32 (s5 lo)
def s7 (lo : W) : W × W := q 16#32 16#32 (s6 lo)
def s8 (lo : W) : W × W := qk 24#32 8#32 ks 0#32 2#32 (s7 lo)
def s9 (lo : W) : W × W := q 13#32 19#32 (s8 lo)
def s10 (lo : W) : W × W := q 15#32 17#32 (s9 lo)
def s11 (lo : W) : W × W := q 26#32 6#32 (s10 lo)
def s12 (lo : W) : W × W := qk 6#32 26#32 0#32 42#32 3#32 (s11 lo)
def s13 (lo : W) : W × W := q 17#32 15#32 (s12 lo)
def s14 (lo : W) : W × W := q 29#32 3#32 (s13 lo)
def s15 (lo : W) : W × W := q 16#32 16#32 (s14 lo)
def s16 (lo : W) : W × W := qk 24#32 8#32 42#32 ks 4#32 (s15 lo)
def s17 (lo : W) : W × W := q 13#32 19#32 (s16 lo)
def s18 (lo : W) : W × W := q 15#32 17#32 (s17 lo)
def s19 (lo : W) : W × W := q 26#32 6#32 (s18 lo)
def s20 (lo : W) : W × W := qe 6#32 26#32 ks 0#32 5#32 (s19 lo)

/-- The random bits at the counter `lo`. -/
def bits (lo : W) : W := (s20 lo).1 ^^^ (s20 lo).2

/-- The position of column `c` of row `r` in the whole array, as a word. -/
def pos (r c : ℕ) : W := BitVec.ofNat 32 (r * 1000000 + c)

open Idealize.ShloMosaic in
/-- The noise at given random bits: a uniform number between the least normal number and one, and the negated
    logarithm taken of it twice. -/
def gum (w : W) : Ideal .f32 :=
  -Ideal.log (-Ideal.log (max (Ideal.ofBits .f32 0x00800000#32)
    ((Ideal.ofBits .f32 ((w >>> (9#32 : W)) ||| 1065353216#32) - Ideal.ofBits .f32 0x3F800000#32)
        * (Ideal.ofBits .f32 0x3F800000#32 - Ideal.ofBits .f32 0x00800000#32)
      + Ideal.ofBits .f32 0x00800000#32)))

end Cert.Words
-- ==== Proof.RefOps.lean ====
/-
  The reference's @main as a straight line of operations, cut into lists: the key, the counters, one list per
  round, and the rest.
-/
module

public import proofs.«01_k».proof.Proof.Gen.ReferenceIdeal
public import proofs.«01_k».proof.Proof.Words
public import Idealize.ShloMosaic.Lib.StableHlo.Run
public import Idealize.ShloMosaic.Lib.Quiescent

@[expose] public section

set_option maxRecDepth 16384

noncomputable section

namespace Cert.ReferenceIdeal.Pf

open Cert.ReferenceIdeal Cert.ReferenceIdeal.Gen
open Idealize.ShloMosaic Idealize.ShloMosaic.TcCoe Idealize.ShloMosaic.StableHlo Idealize.SL.Sem

variable {F : FTy → Type} [FloatOps F]

abbrev pre : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_call0_cst (constant S_ .f32 0x3F800000#32),
    nullary main_call0_cst_0 (constant S_ .f32 0x00800000#32),
    unary main_call0_cst main_call0_call0_v0 (id : (⟨S_, .f32⟩ : BufTy).Contents (Elt F) → (⟨S_, .f32⟩ : BufTy).Contents (Elt F)),
    unary main_call0_cst_0 main_call0_call0_v1 ((broadcastInDim S1x1 ![] bcast_S_S1x1) : (⟨S_, .f32⟩ : BufTy).Contents (Elt F) → (⟨S1x1, .f32⟩ : BufTy).Contents (Elt F)),
    unary main_call0_call0_v0 main_call0_call0_v2 ((broadcastInDim S1x1 ![] bcast_S_S1x1) : (⟨S_, .f32⟩ : BufTy).Contents (Elt F) → (⟨S1x1, .f32⟩ : BufTy).Contents (Elt F)),
    unary main_v6 main_call0_call0_v3 ((extractStridedSlice S1 ![0] · slices_S2_S1_0) : (⟨S2, .i32⟩ : BufTy).Contents (Elt F) → (⟨S1, .i32⟩ : BufTy).Contents (Elt F)),
    reshape main_call0_call0_v3 main_call0_call0_v4 (rfl : (.i32 : EltTy) = .i32) shapeCasts_S1_S_,
    unary main_v6 main_call0_call0_v5 ((extractStridedSlice S1 ![1] · slices_S2_S1_1) : (⟨S2, .i32⟩ : BufTy).Contents (Elt F) → (⟨S1, .i32⟩ : BufTy).Contents (Elt F)),
    reshape main_call0_call0_v5 main_call0_call0_v6 (rfl : (.i32 : EltTy) = .i32) shapeCasts_S1_S_,
    nullary main_call0_call0_v7 (iotaInDim S64x1000000 64 0),
    nullary main_call0_call0_v8 (iotaInDim S64x1000000 64 1),
    nullary main_call0_call0_c (constantI S_ 64 1000000#64),
    unary main_call0_call0_c main_call0_call0_v9 ((broadcastInDim S64x1000000 ![] bcast_S_S64x1000000) : (⟨S_, .i64⟩ : BufTy).Contents (Elt F) → (⟨S64x1000000, .i64⟩ : BufTy).Contents (Elt F)),
    binary main_call0_call0_v9 main_call0_call0_v7 main_call0_call0_v10 (muli : (⟨S64x1000000, .i64⟩ : BufTy).Contents (Elt F) → (⟨S64x1000000, .i64⟩ : BufTy).Contents (Elt F) → (⟨S64x1000000, .i64⟩ : BufTy).Contents (Elt F)),
    nullary main_call0_call0_c_0 (constantI S_ 64 1#64),
    unary main_call0_call0_c_0 main_call0_call0_v11 ((broadcastInDim S64x1000000 ![] bcast_S_S64x1000000) : (⟨S_, .i64⟩ : BufTy).Contents (Elt F) → (⟨S64x1000000, .i64⟩ : BufTy).Contents (Elt F)),
    binary main_call0_call0_v11 main_call0_call0_v8 main_call0_call0_v12 (muli : (⟨S64x1000000, .i64⟩ : BufTy).Contents (Elt F) → (⟨S64x1000000, .i64⟩ : BufTy).Contents (Elt F) → (⟨S64x1000000, .i64⟩ : BufTy).Contents (Elt F)),
    binary main_call0_call0_v10 main_call0_call0_v12 main_call0_call0_v13 (addi : (⟨S64x1000000, .i64⟩ : BufTy).Contents (Elt F) → (⟨S64x1000000, .i64⟩ : BufTy).Contents (Elt F) → (⟨S64x1000000, .i64⟩ : BufTy).Contents (Elt F)),
    nullary main_call0_call0_c_1 (constantI S_ 64 32#64),
    unary main_call0_call0_c_1 main_call0_call0_v14 ((broadcastInDim S64x1000000 ![] bcast_S_S64x1000000) : (⟨S_, .i64⟩ : BufTy).Contents (Elt F) → (⟨S64x1000000, .i64⟩ : BufTy).Contents (Elt F)),
    binary main_call0_call0_v13 main_call0_call0_v14 main_call0_call0_v15 (Host.shrui : (⟨S64x1000000, .i64⟩ : BufTy).Contents (Elt F) → (⟨S64x1000000, .i64⟩ : BufTy).Contents (Elt F) → (⟨S64x1000000, .i64⟩ : BufTy).Contents (Elt F)),
    unary main_call0_call0_v13 main_call0_call0_v16 ((trunci 32 · natLt_32_64) : (⟨S64x1000000, .i64⟩ : BufTy).Contents (Elt F) → (⟨S64x1000000, .i32⟩ : BufTy).Contents (Elt F)),
    unary main_call0_call0_v15 main_call0_call0_v17 ((trunci 32 · natLt_32_64) : (⟨S64x1000000, .i64⟩ : BufTy).Contents (Elt F) → (⟨S64x1000000, .i32⟩ : BufTy).Contents (Elt F)) ]

abbrev preW : List (Ref sig .tc) :=
  [main_c, main_c_0, main_v0, main_v1, main_v2, main_c_1, main_v3, main_v4, main_v5, main_v6, main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_c_0, main_call0_call0_v11, main_call0_call0_v12, main_call0_call0_v13, main_call0_call0_c_1, main_call0_call0_v14, main_call0_call0_v15, main_call0_call0_v16, main_call0_call0_v17]

theorem pre_writes : (pre (F := F)).map HloOp.writes = preW.map fun w => {Proc.devRef (τ := τ) .tc w} := rfl

theorem pre_fresh : (pre (F := F)).map HloOp.fresh = (pre (F := F)).map fun _ => (∅ : Finset (DevRef τ sig)) := rfl

theorem pre_sub : (pre (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩

abbrev key : List (HloOp τ sig (Elt F)) :=
  [ binary main_call0_call0_v4 main_call0_call0_v6 main_call0_call0_call0_v0 (xori : (⟨S_, .i32⟩ : BufTy).Contents (Elt F) → (⟨S_, .i32⟩ : BufTy).Contents (Elt F) → (⟨S_, .i32⟩ : BufTy).Contents (Elt F)),
    nullary main_call0_call0_call0_c (constantI S_ 32 466688986#32),
    binary main_call0_call0_call0_v0 main_call0_call0_call0_c main_call0_call0_call0_v1 (xori : (⟨S_, .i32⟩ : BufTy).Contents (Elt F) → (⟨S_, .i32⟩ : BufTy).Contents (Elt F) → (⟨S_, .i32⟩ : BufTy).Contents (Elt F)),
    unary main_call0_call0_v4 main_call0_call0_call0_v2 ((broadcastInDim S64x1000000 ![] bcast_S_S64x1000000) : (⟨S_, .i32⟩ : BufTy).Contents (Elt F) → (⟨S64x1000000, .i32⟩ : BufTy).Contents (Elt F)),
    binary main_call0_call0_v17 main_call0_call0_call0_v2 main_call0_call0_call0_v3 (addi : (⟨S64x1000000, .i32⟩ : BufTy).Contents (Elt F) → (⟨S64x1000000, .i32⟩ : BufTy).Contents (Elt F) → (⟨S64x1000000, .i32⟩ : BufTy).Contents (Elt F)),
    unary main_call0_call0_v6 main_call0_call0_call0_v4 ((broadcastInDim S64x1000000 ![] bcast_S_S64x1000000) : (⟨S_, .i32⟩ : BufTy).Contents (Elt F) → (⟨S64x1000000, .i32⟩ : BufTy).Contents (Elt F)),
    binary main_call0_call0_v16 main_call0_call0_call0_v4 main_call0_call0_call0_v5 (addi : (⟨S64x1000000, .i32⟩ : BufTy).Contents (Elt F) → (⟨S64x1000000, .i32⟩ : BufTy).Contents (Elt F) → (⟨S64x1000000, .i32⟩ : BufTy).Contents (Elt F)),
    binary main_call0_call0_call0_v3 main_call0_call0_call0_v5 main_call0_call0_call0_v6 (addi : (⟨S64x1000000, .i32⟩ : BufTy).Contents (Elt F) → (⟨S64x1000000, .i32⟩ : BufTy).Contents (Elt F) → (⟨S64x1000000, .i32⟩ : BufTy).Contents (Elt F)) ]

abbrev keyW : List (Ref sig .tc) :=
  [main_call0_call0_call0_v0, main_call0_call0_call0_c, main_call0_call0_call0_v1, main_call0_call0_call0_v2, main_call0_call0_call0_v3, main_call0_call0_call0_v4, main_call0_call0_call0_v5, main_call0_call0_call0_v6]

theorem key_writes : (key (F := F)).map HloOp.writes = keyW.map fun w => {Proc.devRef (τ := τ) .tc w} := rfl

theorem key_fresh : (key (F := F)).map HloOp.fresh = (key (F := F)).map fun _ => (∅ : Finset (DevRef τ sig)) := rfl

theorem key_sub : (key (F := F)).Forall fun op => op.bufs ⊆ tcRefs τ sig :=
  ⟨binary_bufs_sub .., nullary_bufs_sub .., binary_bufs_sub .., unary_bufs_sub .., binary_bufs_sub .., unary_bufs_sub .., binary_bufs_sub .., binary_bufs_sub ..⟩

abbrev t1 : List (HloOp τ sig (Elt F)) :=
  [ nullary main_call0_call0_call0_c_0 (constantI S_ 32 13#32),
    unary main_call0_call0_call0_c_0 main_call0_call0_call0_v7 ((broadcastInDim S64x1000000 ![] bcast_S_S64x1000000) : (⟨S_, .i32⟩ : BufTy).Contents (Elt F) → (⟨S64x1000000, .i32⟩ : BufTy).Contents (Elt F)),
    binary main_call0_call0_call0_v5 main_call0_call0_call0_v7 main_call0_call0_call0_v8 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_1 (constantI S_ 32 19#32),
    unary main_call0_call0_call0_c_1 main_call0_call0_call0_v9 ((broadcastInDim S64x1000000 ![] bcast_S_S64x1000000) : (⟨S_, .i32⟩ : BufTy).Contents (Elt F) → (⟨S64x1000000, .i32⟩ : BufTy).Contents (Elt F)),
    binary main_call0_call0_call0_v5 main_call0_call0_call0_v9 main_call0_call0_call0_v10 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v8 main_call0_call0_call0_v10 main_call0_call0_call0_v11 (ori : (⟨S64x1000000, .i32⟩ : BufTy).Contents (Elt F) → (⟨S64x1000000, .i32⟩ : BufTy).Contents (Elt F) → (⟨S64x1000000, .i32⟩ : BufTy).Contents (Elt F)),
    binary main_call0_call0_call0_v6 main_call0_call0_call0_v11 main_call0_call0_call0_v12 (xori : (⟨S64x1000000, .i32⟩ : BufTy).Contents (Elt F) → (⟨S64x1000000, .i32⟩ : BufTy).Contents (Elt F) → (⟨S64x1000000, .i32⟩ : BufTy).Contents (Elt F)),
    binary main_call0_call0_call0_v6 main_call0_call0_call0_v12 main_call0_call0_call0_v13 (addi : (⟨S64x1000000, .i32⟩ : BufTy).Contents (Elt F) → (⟨S64x1000000, .i32⟩ : BufTy).Contents (Elt F) → (⟨S64x1000000, .i32⟩ : BufTy).Contents (Elt F)) ]

abbrev t1W : List (Ref sig .tc) :=
  [main_call0_call0_call0_c_0, main_call0_call0_call0_v7, main_call0_call0_call0_v8, main_call0_call0_call0_c_1, main_call0_call0_call0_v9, main_call0_call0_call0_v10, main_call0_call0_call0_v11, main_call0_call0_call0_v12, main_call0_call0_call0_v13]

theorem t1_writes : (t1 (F := F)).map HloOp.writes = t1W.map fun w => {Proc.devRef (τ := τ) .tc w} := rfl

theorem t1_fresh : (t1 (F := F)).map HloOp.fresh = (t1 (F := F)).map fun _ => (∅ : Finset (DevRef τ sig)) := rfl

theorem t1_sub : (t1 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t2 : List (HloOp τ sig (Elt F)) :=
  [ nullary main_call0_call0_call0_c_2 (constantI S_ 32 15#32),
    unary main_call0_call0_call0_c_2 main_call0_call0_call0_v14 ((broadcastInDim S64x1000000 ![] bcast_S_S64x1000000) : (⟨S_, .i32⟩ : BufTy).Contents (Elt F) → (⟨S64x1000000, .i32⟩ : BufTy).Contents (Elt F)),
    binary main_call0_call0_call0_v12 main_call0_call0_call0_v14 main_call0_call0_call0_v15 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_3 (constantI S_ 32 17#32),
    unary main_call0_call0_call0_c_3 main_call0_call0_call0_v16 ((broadcastInDim S64x1000000 ![] bcast_S_S64x1000000) : (⟨S_, .i32⟩ : BufTy).Contents (Elt F) → (⟨S64x1000000, .i32⟩ : BufTy).Contents (Elt F)),
    binary main_call0_call0_call0_v12 main_call0_call0_call0_v16 main_call0_call0_call0_v17 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v15 main_call0_call0_call0_v17 main_call0_call0_call0_v18 (ori : (⟨S64x1000000, .i32⟩ : BufTy).Contents (Elt F) → (⟨S64x1000000, .i32⟩ : BufTy).Contents (Elt F) → (⟨S64x1000000, .i32⟩ : BufTy).Contents (Elt F)),
    binary main_call0_call0_call0_v13 main_call0_call0_call0_v18 main_call0_call0_call0_v19 (xori : (⟨S64x1000000, .i32⟩ : BufTy).Contents (Elt F) → (⟨S64x1000000, .i32⟩ : BufTy).Contents (Elt F) → (⟨S64x1000000, .i32⟩ : BufTy).Contents (Elt F)),
    binary main_call0_call0_call0_v13 main_call0_call0_call0_v19 main_call0_call0_call0_v20 (addi : (⟨S64x1000000, .i32⟩ : BufTy).Contents (Elt F) → (⟨S64x1000000, .i32⟩ : BufTy).Contents (Elt F) → (⟨S64x1000000, .i32⟩ : BufTy).Contents (Elt F)) ]

abbrev t2W : List (Ref sig .tc) :=
  [main_call0_call0_call0_c_2, main_call0_call0_call0_v14, main_call0_call0_call0_v15, main_call0_call0_call0_c_3, main_call0_call0_call0_v16, main_call0_call0_call0_v17, main_call0_call0_call0_v18, main_call0_call0_call0_v19, main_call0_call0_call0_v20]

theorem t2_writes : (t2 (F := F)).map HloOp.writes = t2W.map fun w => {Proc.devRef (τ := τ) .tc w} := rfl

theorem t2_fresh : (t2 (F := F)).map HloOp.fresh = (t2 (F := F)).map fun _ => (∅ : Finset (DevRef τ sig)) := rfl

theorem t2_sub : (t2 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t3 : List (HloOp τ sig (Elt F)) :=
  [ nullary main_call0_call0_call0_c_4 (constantI S_ 32 26#32),
    unary main_call0_call0_call0_c_4 main_call0_call0_call0_v21 ((broadcastInDim S64x1000000 ![] bcast_S_S64x1000000) : (⟨S_, .i32⟩ : BufTy).Contents (Elt F) → (⟨S64x1000000, .i32⟩ : BufTy).Contents (Elt F)),
    binary main_call0_call0_call0_v19 main_call0_call0_call0_v21 main_call0_call0_call0_v22 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_5 (constantI S_ 32 6#32),
    unary main_call0_call0_call0_c_5 main_call0_call0_call0_v23 ((broadcastInDim S64x1000000 ![] bcast_S_S64x1000000) : (⟨S_, .i32⟩ : BufTy).Contents (Elt F) → (⟨S64x1000000, .i32⟩ : BufTy).Contents (Elt F)),
    binary main_call0_call0_call0_v19 main_call0_call0_call0_v23 main_call0_call0_call0_v24 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v22 main_call0_call0_call0_v24 main_call0_call0_call0_v25 (ori : (⟨S64x1000000, .i32⟩ : BufTy).Contents (Elt F) → (⟨S64x1000000, .i32⟩ : BufTy).Contents (Elt F) → (⟨S64x1000000, .i32⟩ : BufTy).Contents (Elt F)),
    binary main_call0_call0_call0_v20 main_call0_call0_call0_v25 main_call0_call0_call0_v26 (xori : (⟨S64x1000000, .i32⟩ : BufTy).Contents (Elt F) → (⟨S64x1000000, .i32⟩ : BufTy).Contents (Elt F) → (⟨S64x1000000, .i32⟩ : BufTy).Contents (Elt F)),
    binary main_call0_call0_call0_v20 main_call0_call0_call0_v26 main_call0_call0_call0_v27 (addi : (⟨S64x1000000, .i32⟩ : BufTy).Contents (Elt F) → (⟨S64x1000000, .i32⟩ : BufTy).Contents (Elt F) → (⟨S64x1000000, .i32⟩ : BufTy).Contents (Elt F)) ]

abbrev t3W : List (Ref sig .tc) :=
  [main_call0_call0_call0_c_4, main_call0_call0_call0_v21, main_call0_call0_call0_v22, main_call0_call0_call0_c_5, main_call0_call0_call0_v23, main_call0_call0_call0_v24, main_call0_call0_call0_v25, main_call0_call0_call0_v26, main_call0_call0_call0_v27]

theorem t3_writes : (t3 (F := F)).map HloOp.writes = t3W.map fun w => {Proc.devRef (τ := τ) .tc w} := rfl

theorem t3_fresh : (t3 (F := F)).map HloOp.fresh = (t3 (F := F)).map fun _ => (∅ : Finset (DevRef τ sig)) := rfl

theorem t3_sub : (t3 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t4 : List (HloOp τ sig (Elt F)) :=
  [ nullary main_call0_call0_call0_c_6 (constantI S_ 32 6#32),
    unary main_call0_call0_call0_c_6 main_call0_call0_call0_v28 ((broadcastInDim S64x1000000 ![] bcast_S_S64x1000000) : (⟨S_, .i32⟩ : BufTy).Contents (Elt F) → (⟨S64x1000000, .i32⟩ : BufTy).Contents (Elt F)),
    binary main_call0_call0_call0_v26 main_call0_call0_call0_v28 main_call0_call0_call0_v29 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_7 (constantI S_ 32 26#32),
    unary main_call0_call0_call0_c_7 main_call0_call0_call0_v30 ((broadcastInDim S64x1000000 ![] bcast_S_S64x1000000) : (⟨S_, .i32⟩ : BufTy).Contents (Elt F) → (⟨S64x1000000, .i32⟩ : BufTy).Contents (Elt F)),
    binary main_call0_call0_call0_v26 main_call0_call0_call0_v30 main_call0_call0_call0_v31 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v29 main_call0_call0_call0_v31 main_call0_call0_call0_v32 (ori : (⟨S64x1000000, .i32⟩ : BufTy).Contents (Elt F) → (⟨S64x1000000, .i32⟩ : BufTy).Contents (Elt F) → (⟨S64x1000000, .i32⟩ : BufTy).Contents (Elt F)),
    binary main_call0_call0_call0_v27 main_call0_call0_call0_v32 main_call0_call0_call0_v33 (xori : (⟨S64x1000000, .i32⟩ : BufTy).Contents (Elt F) → (⟨S64x1000000, .i32⟩ : BufTy).Contents (Elt F) → (⟨S64x1000000, .i32⟩ : BufTy).Contents (Elt F)),
    unary main_call0_call0_v6 main_call0_call0_call0_v34 ((broadcastInDim S64x1000000 ![] bcast_S_S64x1000000) : (⟨S_, .i32⟩ : BufTy).Contents (Elt F) → (⟨S64x1000000, .i32⟩ : BufTy).Contents (Elt F)),
    binary main_call0_call0_call0_v27 main_call0_call0_call0_v34 main_call0_call0_call0_v35 (addi : (⟨S64x1000000, .i32⟩ : BufTy).Contents (Elt F) → (⟨S64x1000000, .i32⟩ : BufTy).Contents (Elt F) → (⟨S64x1000000, .i32⟩ : BufTy).Contents (Elt F)),
    unary main_call0_call0_call0_v1 main_call0_call0_call0_v36 ((broadcastInDim S64x1000000 ![] bcast_S_S64x1000000) : (⟨S_, .i32⟩ : BufTy).Contents (Elt F) → (⟨S64x1000000, .i32⟩ : BufTy).Contents (Elt F)),
    binary main_call0_call0_call0_v33 main_call0_call0_call0_v36 main_call0_call0_call0_v37 (addi : (⟨S64x1000000, .i32⟩ : BufTy).Contents (Elt F) → (⟨S64x1000000, .i32⟩ : BufTy).Contents (Elt F) → (⟨S64x1000000, .i32⟩ : BufTy).Contents (Elt F)),
    nullary main_call0_call0_call0_c_8 (constantI S_ 32 1#32),
    unary main_call0_call0_call0_c_8 main_call0_call0_call0_v38 ((broadcastInDim S64x1000000 ![] bcast_S_S64x1000000) : (⟨S_, .i32⟩ : BufTy).Contents (Elt F) → (⟨S64x1000000, .i32⟩ : BufTy).Contents (Elt F)),
    binary main_call0_call0_call0_v37 main_call0_call0_call0_v38 main_call0_call0_call0_v39 (addi : (⟨S64x1000000, .i32⟩ : BufTy).Contents (Elt F) → (⟨S64x1000000, .i32⟩ : BufTy).Contents (Elt F) → (⟨S64x1000000, .i32⟩ : BufTy).Contents (Elt F)),
    binary main_call0_call0_call0_v35 main_call0_call0_call0_v39 main_call0_call0_call0_v40 (addi : (⟨S64x1000000, .i32⟩ : BufTy).Contents (Elt F) → (⟨S64x1000000, .i32⟩ : BufTy).Contents (Elt F) → (⟨S64x1000000, .i32⟩ : BufTy).Contents (Elt F)) ]

abbrev t4W : List (Ref sig .tc) :=
  [main_call0_call0_call0_c_6, main_call0_call0_call0_v28, main_call0_call0_call0_v29, main_call0_call0_call0_c_7, main_call0_call0_call0_v30, main_call0_call0_call0_v31, main_call0_call0_call0_v32, main_call0_call0_call0_v33, main_call0_call0_call0_v34, main_call0_call0_call0_v35, main_call0_call0_call0_v36, main_call0_call0_call0_v37, main_call0_call0_call0_c_8, main_call0_call0_call0_v38, main_call0_call0_call0_v39, main_call0_call0_call0_v40]

theorem t4_writes : (t4 (F := F)).map HloOp.writes = t4W.map fun w => {Proc.devRef (τ := τ) .tc w} := rfl

theorem t4_fresh : (t4 (F := F)).map HloOp.fresh = (t4 (F := F)).map fun _ => (∅ : Finset (DevRef τ sig)) := rfl

theorem t4_sub : (t4 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

abbrev t5 : List (HloOp τ sig (Elt F)) :=
  [ nullary main_call0_call0_call0_c_9 (constantI S_ 32 17#32),
    unary main_call0_call0_call0_c_9 main_call0_call0_call0_v41 ((broadcastInDim S64x1000000 ![] bcast_S_S64x1000000) : (⟨S_, .i32⟩ : BufTy).Contents (Elt F) → (⟨S64x1000000, .i32⟩ : BufTy).Contents (Elt F)),
    binary main_call0_call0_call0_v39 main_call0_call0_call0_v41 main_call0_call0_call0_v42 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_10 (constantI S_ 32 15#32),
    unary main_call0_call0_call0_c_10 main_call0_call0_call0_v43 ((broadcastInDim S64x1000000 ![] bcast_S_S64x1000000) : (⟨S_, .i32⟩ : BufTy).Contents (Elt F) → (⟨S64x1000000, .i32⟩ : BufTy).Contents (Elt F)),
    binary main_call0_call0_call0_v39 main_call0_call0_call0_v43 main_call0_call0_call0_v44 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v42 main_call0_call0_call0_v44 main_call0_call0_call0_v45 (ori : (⟨S64x1000000, .i32⟩ : BufTy).Contents (Elt F) → (⟨S64x1000000, .i32⟩ : BufTy).Contents (Elt F) → (⟨S64x1000000, .i32⟩ : BufTy).Contents (Elt F)),
    binary main_call0_call0_call0_v40 main_call0_call0_call0_v45 main_call0_call0_call0_v46 (xori : (⟨S64x1000000, .i32⟩ : BufTy).Contents (Elt F) → (⟨S64x1000000, .i32⟩ : BufTy).Contents (Elt F) → (⟨S64x1000000, .i32⟩ : BufTy).Contents (Elt F)),
    binary main_call0_call0_call0_v40 main_call0_call0_call0_v46 main_call0_call0_call0_v47 (addi : (⟨S64x1000000, .i32⟩ : BufTy).Contents (Elt F) → (⟨S64x1000000, .i32⟩ : BufTy).Contents (Elt F) → (⟨S64x1000000, .i32⟩ : BufTy).Contents (Elt F)) ]

abbrev t5W : List (Ref sig .tc) :=
  [main_call0_call0_call0_c_9, main_call0_call0_call0_v41, main_call0_call0_call0_v42, main_call0_call0_call0_c_10, main_call0_call0_call0_v43, main_call0_call0_call0_v44, main_call0_call0_call0_v45, main_call0_call0_call0_v46, main_call0_call0_call0_v47]

theorem t5_writes : (t5 (F := F)).map HloOp.writes = t5W.map fun w => {Proc.devRef (τ := τ) .tc w} := rfl

theorem t5_fresh : (t5 (F := F)).map HloOp.fresh = (t5 (F := F)).map fun _ => (∅ : Finset (DevRef τ sig)) := rfl

theorem t5_sub : (t5 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t6 : List (HloOp τ sig (Elt F)) :=
  [ nullary main_call0_call0_call0_c_11 (constantI S_ 32 29#32),
    unary main_call0_call0_call0_c_11 main_call0_call0_call0_v48 ((broadcastInDim S64x1000000 ![] bcast_S_S64x1000000) : (⟨S_, .i32⟩ : BufTy).Contents (Elt F) → (⟨S64x1000000, .i32⟩ : BufTy).Contents (Elt F)),
    binary main_call0_call0_call0_v46 main_call0_call0_call0_v48 main_call0_call0_call0_v49 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_12 (constantI S_ 32 3#32),
    unary main_call0_call0_call0_c_12 main_call0_call0_call0_v50 ((broadcastInDim S64x1000000 ![] bcast_S_S64x1000000) : (⟨S_, .i32⟩ : BufTy).Contents (Elt F) → (⟨S64x1000000, .i32⟩ : BufTy).Contents (Elt F)),
    binary main_call0_call0_call0_v46 main_call0_call0_call0_v50 main_call0_call0_call0_v51 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v49 main_call0_call0_call0_v51 main_call0_call0_call0_v52 (ori : (⟨S64x1000000, .i32⟩ : BufTy).Contents (Elt F) → (⟨S64x1000000, .i32⟩ : BufTy).Contents (Elt F) → (⟨S64x1000000, .i32⟩ : BufTy).Contents (Elt F)),
    binary main_call0_call0_call0_v47 main_call0_call0_call0_v52 main_call0_call0_call0_v53 (xori : (⟨S64x1000000, .i32⟩ : BufTy).Contents (Elt F) → (⟨S64x1000000, .i32⟩ : BufTy).Contents (Elt F) → (⟨S64x1000000, .i32⟩ : BufTy).Contents (Elt F)),
    binary main_call0_call0_call0_v47 main_call0_call0_call0_v53 main_call0_call0_call0_v54 (addi : (⟨S64x1000000, .i32⟩ : BufTy).Contents (Elt F) → (⟨S64x1000000, .i32⟩ : BufTy).Contents (Elt F) → (⟨S64x1000000, .i32⟩ : BufTy).Contents (Elt F)) ]

abbrev t6W : List (Ref sig .tc) :=
  [main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54]

theorem t6_writes : (t6 (F := F)).map HloOp.writes = t6W.map fun w => {Proc.devRef (τ := τ) .tc w} := rfl

theorem t6_fresh : (t6 (F := F)).map HloOp.fresh = (t6 (F := F)).map fun _ => (∅ : Finset (DevRef τ sig)) := rfl

theorem t6_sub : (t6 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t7 : List (HloOp τ sig (Elt F)) :=
  [ nullary main_call0_call0_call0_c_13 (constantI S_ 32 16#32),
    unary main_call0_call0_call0_c_13 main_call0_call0_call0_v55 ((broadcastInDim S64x1000000 ![] bcast_S_S64x1000000) : (⟨S_, .i32⟩ : BufTy).Contents (Elt F) → (⟨S64x1000000, .i32⟩ : BufTy).Contents (Elt F)),
    binary main_call0_call0_call0_v53 main_call0_call0_call0_v55 main_call0_call0_call0_v56 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_14 (constantI S_ 32 16#32),
    unary main_call0_call0_call0_c_14 main_call0_call0_call0_v57 ((broadcastInDim S64x1000000 ![] bcast_S_S64x1000000) : (⟨S_, .i32⟩ : BufTy).Contents (Elt F) → (⟨S64x1000000, .i32⟩ : BufTy).Contents (Elt F)),
    binary main_call0_call0_call0_v53 main_call0_call0_call0_v57 main_call0_call0_call0_v58 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v56 main_call0_call0_call0_v58 main_call0_call0_call0_v59 (ori : (⟨S64x1000000, .i32⟩ : BufTy).Contents (Elt F) → (⟨S64x1000000, .i32⟩ : BufTy).Contents (Elt F) → (⟨S64x1000000, .i32⟩ : BufTy).Contents (Elt F)),
    binary main_call0_call0_call0_v54 main_call0_call0_call0_v59 main_call0_call0_call0_v60 (xori : (⟨S64x1000000, .i32⟩ : BufTy).Contents (Elt F) → (⟨S64x1000000, .i32⟩ : BufTy).Contents (Elt F) → (⟨S64x1000000, .i32⟩ : BufTy).Contents (Elt F)),
    binary main_call0_call0_call0_v54 main_call0_call0_call0_v60 main_call0_call0_call0_v61 (addi : (⟨S64x1000000, .i32⟩ : BufTy).Contents (Elt F) → (⟨S64x1000000, .i32⟩ : BufTy).Contents (Elt F) → (⟨S64x1000000, .i32⟩ : BufTy).Contents (Elt F)) ]

abbrev t7W : List (Ref sig .tc) :=
  [main_call0_call0_call0_c_13, main_call0_call0_call0_v55, main_call0_call0_call0_v56, main_call0_call0_call0_c_14, main_call0_call0_call0_v57, main_call0_call0_call0_v58, main_call0_call0_call0_v59, main_call0_call0_call0_v60, main_call0_call0_call0_v61]

theorem t7_writes : (t7 (F := F)).map HloOp.writes = t7W.map fun w => {Proc.devRef (τ := τ) .tc w} := rfl

theorem t7_fresh : (t7 (F := F)).map HloOp.fresh = (t7 (F := F)).map fun _ => (∅ : Finset (DevRef τ sig)) := rfl

theorem t7_sub : (t7 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t8 : List (HloOp τ sig (Elt F)) :=
  [ nullary main_call0_call0_call0_c_15 (constantI S_ 32 24#32),
    unary main_call0_call0_call0_c_15 main_call0_call0_call0_v62 ((broadcastInDim S64x1000000 ![] bcast_S_S64x1000000) : (⟨S_, .i32⟩ : BufTy).Contents (Elt F) → (⟨S64x1000000, .i32⟩ : BufTy).Contents (Elt F)),
    binary main_call0_call0_call0_v60 main_call0_call0_call0_v62 main_call0_call0_call0_v63 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_16 (constantI S_ 32 8#32),
    unary main_call0_call0_call0_c_16 main_call0_call0_call0_v64 ((broadcastInDim S64x1000000 ![] bcast_S_S64x1000000) : (⟨S_, .i32⟩ : BufTy).Contents (Elt F) → (⟨S64x1000000, .i32⟩ : BufTy).Contents (Elt F)),
    binary main_call0_call0_call0_v60 main_call0_call0_call0_v64 main_call0_call0_call0_v65 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v63 main_call0_call0_call0_v65 main_call0_call0_call0_v66 (ori : (⟨S64x1000000, .i32⟩ : BufTy).Contents (Elt F) → (⟨S64x1000000, .i32⟩ : BufTy).Contents (Elt F) → (⟨S64x1000000, .i32⟩ : BufTy).Contents (Elt F)),
    binary main_call0_call0_call0_v61 main_call0_call0_call0_v66 main_call0_call0_call0_v67 (xori : (⟨S64x1000000, .i32⟩ : BufTy).Contents (Elt F) → (⟨S64x1000000, .i32⟩ : BufTy).Contents (Elt F) → (⟨S64x1000000, .i32⟩ : BufTy).Contents (Elt F)),
    unary main_call0_call0_call0_v1 main_call0_call0_call0_v68 ((broadcastInDim S64x1000000 ![] bcast_S_S64x1000000) : (⟨S_, .i32⟩ : BufTy).Contents (Elt F) → (⟨S64x1000000, .i32⟩ : BufTy).Contents (Elt F)),
    binary main_call0_call0_call0_v61 main_call0_call0_call0_v68 main_call0_call0_call0_v69 (addi : (⟨S64x1000000, .i32⟩ : BufTy).Contents (Elt F) → (⟨S64x1000000, .i32⟩ : BufTy).Contents (Elt F) → (⟨S64x1000000, .i32⟩ : BufTy).Contents (Elt F)),
    unary main_call0_call0_v4 main_call0_call0_call0_v70 ((broadcastInDim S64x1000000 ![] bcast_S_S64x1000000) : (⟨S_, .i32⟩ : BufTy).Contents (Elt F) → (⟨S64x1000000, .i32⟩ : BufTy).Contents (Elt F)),
    binary main_call0_call0_call0_v67 main_call0_call0_call0_v70 main_call0_call0_call0_v71 (addi : (⟨S64x1000000, .i32⟩ : BufTy).Contents (Elt F) → (⟨S64x1000000, .i32⟩ : BufTy).Contents (Elt F) → (⟨S64x1000000, .i32⟩ : BufTy).Contents (Elt F)),
    nullary main_call0_call0_call0_c_17 (constantI S_ 32 2#32),
    unary main_call0_call0_call0_c_17 main_call0_call0_call0_v72 ((broadcastInDim S64x1000000 ![] bcast_S_S64x1000000) : (⟨S_, .i32⟩ : BufTy).Contents (Elt F) → (⟨S64x1000000, .i32⟩ : BufTy).Contents (Elt F)),
    binary main_call0_call0_call0_v71 main_call0_call0_call0_v72 main_call0_call0_call0_v73 (addi : (⟨S64x1000000, .i32⟩ : BufTy).Contents (Elt F) → (⟨S64x1000000, .i32⟩ : BufTy).Contents (Elt F) → (⟨S64x1000000, .i32⟩ : BufTy).Contents (Elt F)),
    binary main_call0_call0_call0_v69 main_call0_call0_call0_v73 main_call0_call0_call0_v74 (addi : (⟨S64x1000000, .i32⟩ : BufTy).Contents (Elt F) → (⟨S64x1000000, .i32⟩ : BufTy).Contents (Elt F) → (⟨S64x1000000, .i32⟩ : BufTy).Contents (Elt F)) ]

abbrev t8W : List (Ref sig .tc) :=
  [main_call0_call0_call0_c_15, main_call0_call0_call0_v62, main_call0_call0_call0_v63, main_call0_call0_call0_c_16, main_call0_call0_call0_v64, main_call0_call0_call0_v65, main_call0_call0_call0_v66, main_call0_call0_call0_v67, main_call0_call0_call0_v68, main_call0_call0_call0_v69, main_call0_call0_call0_v70, main_call0_call0_call0_v71, main_call0_call0_call0_c_17, main_call0_call0_call0_v72, main_call0_call0_call0_v73, main_call0_call0_call0_v74]

theorem t8_writes : (t8 (F := F)).map HloOp.writes = t8W.map fun w => {Proc.devRef (τ := τ) .tc w} := rfl

theorem t8_fresh : (t8 (F := F)).map HloOp.fresh = (t8 (F := F)).map fun _ => (∅ : Finset (DevRef τ sig)) := rfl

theorem t8_sub : (t8 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

abbrev t9 : List (HloOp τ sig (Elt F)) :=
  [ nullary main_call0_call0_call0_c_18 (constantI S_ 32 13#32),
    unary main_call0_call0_call0_c_18 main_call0_call0_call0_v75 ((broadcastInDim S64x1000000 ![] bcast_S_S64x1000000) : (⟨S_, .i32⟩ : BufTy).Contents (Elt F) → (⟨S64x1000000, .i32⟩ : BufTy).Contents (Elt F)),
    binary main_call0_call0_call0_v73 main_call0_call0_call0_v75 main_call0_call0_call0_v76 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_19 (constantI S_ 32 19#32),
    unary main_call0_call0_call0_c_19 main_call0_call0_call0_v77 ((broadcastInDim S64x1000000 ![] bcast_S_S64x1000000) : (⟨S_, .i32⟩ : BufTy).Contents (Elt F) → (⟨S64x1000000, .i32⟩ : BufTy).Contents (Elt F)),
    binary main_call0_call0_call0_v73 main_call0_call0_call0_v77 main_call0_call0_call0_v78 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v76 main_call0_call0_call0_v78 main_call0_call0_call0_v79 (ori : (⟨S64x1000000, .i32⟩ : BufTy).Contents (Elt F) → (⟨S64x1000000, .i32⟩ : BufTy).Contents (Elt F) → (⟨S64x1000000, .i32⟩ : BufTy).Contents (Elt F)),
    binary main_call0_call0_call0_v74 main_call0_call0_call0_v79 main_call0_call0_call0_v80 (xori : (⟨S64x1000000, .i32⟩ : BufTy).Contents (Elt F) → (⟨S64x1000000, .i32⟩ : BufTy).Contents (Elt F) → (⟨S64x1000000, .i32⟩ : BufTy).Contents (Elt F)),
    binary main_call0_call0_call0_v74 main_call0_call0_call0_v80 main_call0_call0_call0_v81 (addi : (⟨S64x1000000, .i32⟩ : BufTy).Contents (Elt F) → (⟨S64x1000000, .i32⟩ : BufTy).Contents (Elt F) → (⟨S64x1000000, .i32⟩ : BufTy).Contents (Elt F)) ]

abbrev t9W : List (Ref sig .tc) :=
  [main_call0_call0_call0_c_18, main_call0_call0_call0_v75, main_call0_call0_call0_v76, main_call0_call0_call0_c_19, main_call0_call0_call0_v77, main_call0_call0_call0_v78, main_call0_call0_call0_v79, main_call0_call0_call0_v80, main_call0_call0_call0_v81]

theorem t9_writes : (t9 (F := F)).map HloOp.writes = t9W.map fun w => {Proc.devRef (τ := τ) .tc w} := rfl

theorem t9_fresh : (t9 (F := F)).map HloOp.fresh = (t9 (F := F)).map fun _ => (∅ : Finset (DevRef τ sig)) := rfl

theorem t9_sub : (t9 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t10 : List (HloOp τ sig (Elt F)) :=
  [ nullary main_call0_call0_call0_c_20 (constantI S_ 32 15#32),
    unary main_call0_call0_call0_c_20 main_call0_call0_call0_v82 ((broadcastInDim S64x1000000 ![] bcast_S_S64x1000000) : (⟨S_, .i32⟩ : BufTy).Contents (Elt F) → (⟨S64x1000000, .i32⟩ : BufTy).Contents (Elt F)),
    binary main_call0_call0_call0_v80 main_call0_call0_call0_v82 main_call0_call0_call0_v83 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_21 (constantI S_ 32 17#32),
    unary main_call0_call0_call0_c_21 main_call0_call0_call0_v84 ((broadcastInDim S64x1000000 ![] bcast_S_S64x1000000) : (⟨S_, .i32⟩ : BufTy).Contents (Elt F) → (⟨S64x1000000, .i32⟩ : BufTy).Contents (Elt F)),
    binary main_call0_call0_call0_v80 main_call0_call0_call0_v84 main_call0_call0_call0_v85 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v83 main_call0_call0_call0_v85 main_call0_call0_call0_v86 (ori : (⟨S64x1000000, .i32⟩ : BufTy).Contents (Elt F) → (⟨S64x1000000, .i32⟩ : BufTy).Contents (Elt F) → (⟨S64x1000000, .i32⟩ : BufTy).Contents (Elt F)),
    binary main_call0_call0_call0_v81 main_call0_call0_call0_v86 main_call0_call0_call0_v87 (xori : (⟨S64x1000000, .i32⟩ : BufTy).Contents (Elt F) → (⟨S64x1000000, .i32⟩ : BufTy).Contents (Elt F) → (⟨S64x1000000, .i32⟩ : BufTy).Contents (Elt F)),
    binary main_call0_call0_call0_v81 main_call0_call0_call0_v87 main_call0_call0_call0_v88 (addi : (⟨S64x1000000, .i32⟩ : BufTy).Contents (Elt F) → (⟨S64x1000000, .i32⟩ : BufTy).Contents (Elt F) → (⟨S64x1000000, .i32⟩ : BufTy).Contents (Elt F)) ]

abbrev t10W : List (Ref sig .tc) :=
  [main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88]

theorem t10_writes : (t10 (F := F)).map HloOp.writes = t10W.map fun w => {Proc.devRef (τ := τ) .tc w} := rfl

theorem t10_fresh : (t10 (F := F)).map HloOp.fresh = (t10 (F := F)).map fun _ => (∅ : Finset (DevRef τ sig)) := rfl

theorem t10_sub : (t10 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t11 : List (HloOp τ sig (Elt F)) :=
  [ nullary main_call0_call0_call0_c_22 (constantI S_ 32 26#32),
    unary main_call0_call0_call0_c_22 main_call0_call0_call0_v89 ((broadcastInDim S64x1000000 ![] bcast_S_S64x1000000) : (⟨S_, .i32⟩ : BufTy).Contents (Elt F) → (⟨S64x1000000, .i32⟩ : BufTy).Contents (Elt F)),
    binary main_call0_call0_call0_v87 main_call0_call0_call0_v89 main_call0_call0_call0_v90 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_23 (constantI S_ 32 6#32),
    unary main_call0_call0_call0_c_23 main_call0_call0_call0_v91 ((broadcastInDim S64x1000000 ![] bcast_S_S64x1000000) : (⟨S_, .i32⟩ : BufTy).Contents (Elt F) → (⟨S64x1000000, .i32⟩ : BufTy).Contents (Elt F)),
    binary main_call0_call0_call0_v87 main_call0_call0_call0_v91 main_call0_call0_call0_v92 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v90 main_call0_call0_call0_v92 main_call0_call0_call0_v93 (ori : (⟨S64x1000000, .i32⟩ : BufTy).Contents (Elt F) → (⟨S64x1000000, .i32⟩ : BufTy).Contents (Elt F) → (⟨S64x1000000, .i32⟩ : BufTy).Contents (Elt F)),
    binary main_call0_call0_call0_v88 main_call0_call0_call0_v93 main_call0_call0_call0_v94 (xori : (⟨S64x1000000, .i32⟩ : BufTy).Contents (Elt F) → (⟨S64x1000000, .i32⟩ : BufTy).Contents (Elt F) → (⟨S64x1000000, .i32⟩ : BufTy).Contents (Elt F)),
    binary main_call0_call0_call0_v88 main_call0_call0_call0_v94 main_call0_call0_call0_v95 (addi : (⟨S64x1000000, .i32⟩ : BufTy).Contents (Elt F) → (⟨S64x1000000, .i32⟩ : BufTy).Contents (Elt F) → (⟨S64x1000000, .i32⟩ : BufTy).Contents (Elt F)) ]

abbrev t11W : List (Ref sig .tc) :=
  [main_call0_call0_call0_c_22, main_call0_call0_call0_v89, main_call0_call0_call0_v90, main_call0_call0_call0_c_23, main_call0_call0_call0_v91, main_call0_call0_call0_v92, main_call0_call0_call0_v93, main_call0_call0_call0_v94, main_call0_call0_call0_v95]

theorem t11_writes : (t11 (F := F)).map HloOp.writes = t11W.map fun w => {Proc.devRef (τ := τ) .tc w} := rfl

theorem t11_fresh : (t11 (F := F)).map HloOp.fresh = (t11 (F := F)).map fun _ => (∅ : Finset (DevRef τ sig)) := rfl

theorem t11_sub : (t11 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t12 : List (HloOp τ sig (Elt F)) :=
  [ nullary main_call0_call0_call0_c_24 (constantI S_ 32 6#32),
    unary main_call0_call0_call0_c_24 main_call0_call0_call0_v96 ((broadcastInDim S64x1000000 ![] bcast_S_S64x1000000) : (⟨S_, .i32⟩ : BufTy).Contents (Elt F) → (⟨S64x1000000, .i32⟩ : BufTy).Contents (Elt F)),
    binary main_call0_call0_call0_v94 main_call0_call0_call0_v96 main_call0_call0_call0_v97 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_25 (constantI S_ 32 26#32),
    unary main_call0_call0_call0_c_25 main_call0_call0_call0_v98 ((broadcastInDim S64x1000000 ![] bcast_S_S64x1000000) : (⟨S_, .i32⟩ : BufTy).Contents (Elt F) → (⟨S64x1000000, .i32⟩ : BufTy).Contents (Elt F)),
    binary main_call0_call0_call0_v94 main_call0_call0_call0_v98 main_call0_call0_call0_v99 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v97 main_call0_call0_call0_v99 main_call0_call0_call0_v100 (ori : (⟨S64x1000000, .i32⟩ : BufTy).Contents (Elt F) → (⟨S64x1000000, .i32⟩ : BufTy).Contents (Elt F) → (⟨S64x1000000, .i32⟩ : BufTy).Contents (Elt F)),
    binary main_call0_call0_call0_v95 main_call0_call0_call0_v100 main_call0_call0_call0_v101 (xori : (⟨S64x1000000, .i32⟩ : BufTy).Contents (Elt F) → (⟨S64x1000000, .i32⟩ : BufTy).Contents (Elt F) → (⟨S64x1000000, .i32⟩ : BufTy).Contents (Elt F)),
    unary main_call0_call0_v4 main_call0_call0_call0_v102 ((broadcastInDim S64x1000000 ![] bcast_S_S64x1000000) : (⟨S_, .i32⟩ : BufTy).Contents (Elt F) → (⟨S64x1000000, .i32⟩ : BufTy).Contents (Elt F)),
    binary main_call0_call0_call0_v95 main_call0_call0_call0_v102 main_call0_call0_call0_v103 (addi : (⟨S64x1000000, .i32⟩ : BufTy).Contents (Elt F) → (⟨S64x1000000, .i32⟩ : BufTy).Contents (Elt F) → (⟨S64x1000000, .i32⟩ : BufTy).Contents (Elt F)),
    unary main_call0_call0_v6 main_call0_call0_call0_v104 ((broadcastInDim S64x1000000 ![] bcast_S_S64x1000000) : (⟨S_, .i32⟩ : BufTy).Contents (Elt F) → (⟨S64x1000000, .i32⟩ : BufTy).Contents (Elt F)),
    binary main_call0_call0_call0_v101 main_call0_call0_call0_v104 main_call0_call0_call0_v105 (addi : (⟨S64x1000000, .i32⟩ : BufTy).Contents (Elt F) → (⟨S64x1000000, .i32⟩ : BufTy).Contents (Elt F) → (⟨S64x1000000, .i32⟩ : BufTy).Contents (Elt F)),
    nullary main_call0_call0_call0_c_26 (constantI S_ 32 3#32),
    unary main_call0_call0_call0_c_26 main_call0_call0_call0_v106 ((broadcastInDim S64x1000000 ![] bcast_S_S64x1000000) : (⟨S_, .i32⟩ : BufTy).Contents (Elt F) → (⟨S64x1000000, .i32⟩ : BufTy).Contents (Elt F)),
    binary main_call0_call0_call0_v105 main_call0_call0_call0_v106 main_call0_call0_call0_v107 (addi : (⟨S64x1000000, .i32⟩ : BufTy).Contents (Elt F) → (⟨S64x1000000, .i32⟩ : BufTy).Contents (Elt F) → (⟨S64x1000000, .i32⟩ : BufTy).Contents (Elt F)),
    binary main_call0_call0_call0_v103 main_call0_call0_call0_v107 main_call0_call0_call0_v108 (addi : (⟨S64x1000000, .i32⟩ : BufTy).Contents (Elt F) → (⟨S64x1000000, .i32⟩ : BufTy).Contents (Elt F) → (⟨S64x1000000, .i32⟩ : BufTy).Contents (Elt F)) ]

abbrev t12W : List (Ref sig .tc) :=
  [main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102, main_call0_call0_call0_v103, main_call0_call0_call0_v104, main_call0_call0_call0_v105, main_call0_call0_call0_c_26, main_call0_call0_call0_v106, main_call0_call0_call0_v107, main_call0_call0_call0_v108]

theorem t12_writes : (t12 (F := F)).map HloOp.writes = t12W.map fun w => {Proc.devRef (τ := τ) .tc w} := rfl

theorem t12_fresh : (t12 (F := F)).map HloOp.fresh = (t12 (F := F)).map fun _ => (∅ : Finset (DevRef τ sig)) := rfl

theorem t12_sub : (t12 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

abbrev t13 : List (HloOp τ sig (Elt F)) :=
  [ nullary main_call0_call0_call0_c_27 (constantI S_ 32 17#32),
    unary main_call0_call0_call0_c_27 main_call0_call0_call0_v109 ((broadcastInDim S64x1000000 ![] bcast_S_S64x1000000) : (⟨S_, .i32⟩ : BufTy).Contents (Elt F) → (⟨S64x1000000, .i32⟩ : BufTy).Contents (Elt F)),
    binary main_call0_call0_call0_v107 main_call0_call0_call0_v109 main_call0_call0_call0_v110 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_28 (constantI S_ 32 15#32),
    unary main_call0_call0_call0_c_28 main_call0_call0_call0_v111 ((broadcastInDim S64x1000000 ![] bcast_S_S64x1000000) : (⟨S_, .i32⟩ : BufTy).Contents (Elt F) → (⟨S64x1000000, .i32⟩ : BufTy).Contents (Elt F)),
    binary main_call0_call0_call0_v107 main_call0_call0_call0_v111 main_call0_call0_call0_v112 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v110 main_call0_call0_call0_v112 main_call0_call0_call0_v113 (ori : (⟨S64x1000000, .i32⟩ : BufTy).Contents (Elt F) → (⟨S64x1000000, .i32⟩ : BufTy).Contents (Elt F) → (⟨S64x1000000, .i32⟩ : BufTy).Contents (Elt F)),
    binary main_call0_call0_call0_v108 main_call0_call0_call0_v113 main_call0_call0_call0_v114 (xori : (⟨S64x1000000, .i32⟩ : BufTy).Contents (Elt F) → (⟨S64x1000000, .i32⟩ : BufTy).Contents (Elt F) → (⟨S64x1000000, .i32⟩ : BufTy).Contents (Elt F)),
    binary main_call0_call0_call0_v108 main_call0_call0_call0_v114 main_call0_call0_call0_v115 (addi : (⟨S64x1000000, .i32⟩ : BufTy).Contents (Elt F) → (⟨S64x1000000, .i32⟩ : BufTy).Contents (Elt F) → (⟨S64x1000000, .i32⟩ : BufTy).Contents (Elt F)) ]

abbrev t13W : List (Ref sig .tc) :=
  [main_call0_call0_call0_c_27, main_call0_call0_call0_v109, main_call0_call0_call0_v110, main_call0_call0_call0_c_28, main_call0_call0_call0_v111, main_call0_call0_call0_v112, main_call0_call0_call0_v113, main_call0_call0_call0_v114, main_call0_call0_call0_v115]

theorem t13_writes : (t13 (F := F)).map HloOp.writes = t13W.map fun w => {Proc.devRef (τ := τ) .tc w} := rfl

theorem t13_fresh : (t13 (F := F)).map HloOp.fresh = (t13 (F := F)).map fun _ => (∅ : Finset (DevRef τ sig)) := rfl

theorem t13_sub : (t13 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t14 : List (HloOp τ sig (Elt F)) :=
  [ nullary main_call0_call0_call0_c_29 (constantI S_ 32 29#32),
    unary main_call0_call0_call0_c_29 main_call0_call0_call0_v116 ((broadcastInDim S64x1000000 ![] bcast_S_S64x1000000) : (⟨S_, .i32⟩ : BufTy).Contents (Elt F) → (⟨S64x1000000, .i32⟩ : BufTy).Contents (Elt F)),
    binary main_call0_call0_call0_v114 main_call0_call0_call0_v116 main_call0_call0_call0_v117 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_30 (constantI S_ 32 3#32),
    unary main_call0_call0_call0_c_30 main_call0_call0_call0_v118 ((broadcastInDim S64x1000000 ![] bcast_S_S64x1000000) : (⟨S_, .i32⟩ : BufTy).Contents (Elt F) → (⟨S64x1000000, .i32⟩ : BufTy).Contents (Elt F)),
    binary main_call0_call0_call0_v114 main_call0_call0_call0_v118 main_call0_call0_call0_v119 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v117 main_call0_call0_call0_v119 main_call0_call0_call0_v120 (ori : (⟨S64x1000000, .i32⟩ : BufTy).Contents (Elt F) → (⟨S64x1000000, .i32⟩ : BufTy).Contents (Elt F) → (⟨S64x1000000, .i32⟩ : BufTy).Contents (Elt F)),
    binary main_call0_call0_call0_v115 main_call0_call0_call0_v120 main_call0_call0_call0_v121 (xori : (⟨S64x1000000, .i32⟩ : BufTy).Contents (Elt F) → (⟨S64x1000000, .i32⟩ : BufTy).Contents (Elt F) → (⟨S64x1000000, .i32⟩ : BufTy).Contents (Elt F)),
    binary main_call0_call0_call0_v115 main_call0_call0_call0_v121 main_call0_call0_call0_v122 (addi : (⟨S64x1000000, .i32⟩ : BufTy).Contents (Elt F) → (⟨S64x1000000, .i32⟩ : BufTy).Contents (Elt F) → (⟨S64x1000000, .i32⟩ : BufTy).Contents (Elt F)) ]

abbrev t14W : List (Ref sig .tc) :=
  [main_call0_call0_call0_c_29, main_call0_call0_call0_v116, main_call0_call0_call0_v117, main_call0_call0_call0_c_30, main_call0_call0_call0_v118, main_call0_call0_call0_v119, main_call0_call0_call0_v120, main_call0_call0_call0_v121, main_call0_call0_call0_v122]

theorem t14_writes : (t14 (F := F)).map HloOp.writes = t14W.map fun w => {Proc.devRef (τ := τ) .tc w} := rfl

theorem t14_fresh : (t14 (F := F)).map HloOp.fresh = (t14 (F := F)).map fun _ => (∅ : Finset (DevRef τ sig)) := rfl

theorem t14_sub : (t14 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t15 : List (HloOp τ sig (Elt F)) :=
  [ nullary main_call0_call0_call0_c_31 (constantI S_ 32 16#32),
    unary main_call0_call0_call0_c_31 main_call0_call0_call0_v123 ((broadcastInDim S64x1000000 ![] bcast_S_S64x1000000) : (⟨S_, .i32⟩ : BufTy).Contents (Elt F) → (⟨S64x1000000, .i32⟩ : BufTy).Contents (Elt F)),
    binary main_call0_call0_call0_v121 main_call0_call0_call0_v123 main_call0_call0_call0_v124 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_32 (constantI S_ 32 16#32),
    unary main_call0_call0_call0_c_32 main_call0_call0_call0_v125 ((broadcastInDim S64x1000000 ![] bcast_S_S64x1000000) : (⟨S_, .i32⟩ : BufTy).Contents (Elt F) → (⟨S64x1000000, .i32⟩ : BufTy).Contents (Elt F)),
    binary main_call0_call0_call0_v121 main_call0_call0_call0_v125 main_call0_call0_call0_v126 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v124 main_call0_call0_call0_v126 main_call0_call0_call0_v127 (ori : (⟨S64x1000000, .i32⟩ : BufTy).Contents (Elt F) → (⟨S64x1000000, .i32⟩ : BufTy).Contents (Elt F) → (⟨S64x1000000, .i32⟩ : BufTy).Contents (Elt F)),
    binary main_call0_call0_call0_v122 main_call0_call0_call0_v127 main_call0_call0_call0_v128 (xori : (⟨S64x1000000, .i32⟩ : BufTy).Contents (Elt F) → (⟨S64x1000000, .i32⟩ : BufTy).Contents (Elt F) → (⟨S64x1000000, .i32⟩ : BufTy).Contents (Elt F)),
    binary main_call0_call0_call0_v122 main_call0_call0_call0_v128 main_call0_call0_call0_v129 (addi : (⟨S64x1000000, .i32⟩ : BufTy).Contents (Elt F) → (⟨S64x1000000, .i32⟩ : BufTy).Contents (Elt F) → (⟨S64x1000000, .i32⟩ : BufTy).Contents (Elt F)) ]

abbrev t15W : List (Ref sig .tc) :=
  [main_call0_call0_call0_c_31, main_call0_call0_call0_v123, main_call0_call0_call0_v124, main_call0_call0_call0_c_32, main_call0_call0_call0_v125, main_call0_call0_call0_v126, main_call0_call0_call0_v127, main_call0_call0_call0_v128, main_call0_call0_call0_v129]

theorem t15_writes : (t15 (F := F)).map HloOp.writes = t15W.map fun w => {Proc.devRef (τ := τ) .tc w} := rfl

theorem t15_fresh : (t15 (F := F)).map HloOp.fresh = (t15 (F := F)).map fun _ => (∅ : Finset (DevRef τ sig)) := rfl

theorem t15_sub : (t15 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t16 : List (HloOp τ sig (Elt F)) :=
  [ nullary main_call0_call0_call0_c_33 (constantI S_ 32 24#32),
    unary main_call0_call0_call0_c_33 main_call0_call0_call0_v130 ((broadcastInDim S64x1000000 ![] bcast_S_S64x1000000) : (⟨S_, .i32⟩ : BufTy).Contents (Elt F) → (⟨S64x1000000, .i32⟩ : BufTy).Contents (Elt F)),
    binary main_call0_call0_call0_v128 main_call0_call0_call0_v130 main_call0_call0_call0_v131 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_34 (constantI S_ 32 8#32),
    unary main_call0_call0_call0_c_34 main_call0_call0_call0_v132 ((broadcastInDim S64x1000000 ![] bcast_S_S64x1000000) : (⟨S_, .i32⟩ : BufTy).Contents (Elt F) → (⟨S64x1000000, .i32⟩ : BufTy).Contents (Elt F)),
    binary main_call0_call0_call0_v128 main_call0_call0_call0_v132 main_call0_call0_call0_v133 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v131 main_call0_call0_call0_v133 main_call0_call0_call0_v134 (ori : (⟨S64x1000000, .i32⟩ : BufTy).Contents (Elt F) → (⟨S64x1000000, .i32⟩ : BufTy).Contents (Elt F) → (⟨S64x1000000, .i32⟩ : BufTy).Contents (Elt F)),
    binary main_call0_call0_call0_v129 main_call0_call0_call0_v134 main_call0_call0_call0_v135 (xori : (⟨S64x1000000, .i32⟩ : BufTy).Contents (Elt F) → (⟨S64x1000000, .i32⟩ : BufTy).Contents (Elt F) → (⟨S64x1000000, .i32⟩ : BufTy).Contents (Elt F)),
    unary main_call0_call0_v6 main_call0_call0_call0_v136 ((broadcastInDim S64x1000000 ![] bcast_S_S64x1000000) : (⟨S_, .i32⟩ : BufTy).Contents (Elt F) → (⟨S64x1000000, .i32⟩ : BufTy).Contents (Elt F)),
    binary main_call0_call0_call0_v129 main_call0_call0_call0_v136 main_call0_call0_call0_v137 (addi : (⟨S64x1000000, .i32⟩ : BufTy).Contents (Elt F) → (⟨S64x1000000, .i32⟩ : BufTy).Contents (Elt F) → (⟨S64x1000000, .i32⟩ : BufTy).Contents (Elt F)),
    unary main_call0_call0_call0_v1 main_call0_call0_call0_v138 ((broadcastInDim S64x1000000 ![] bcast_S_S64x1000000) : (⟨S_, .i32⟩ : BufTy).Contents (Elt F) → (⟨S64x1000000, .i32⟩ : BufTy).Contents (Elt F)),
    binary main_call0_call0_call0_v135 main_call0_call0_call0_v138 main_call0_call0_call0_v139 (addi : (⟨S64x1000000, .i32⟩ : BufTy).Contents (Elt F) → (⟨S64x1000000, .i32⟩ : BufTy).Contents (Elt F) → (⟨S64x1000000, .i32⟩ : BufTy).Contents (Elt F)),
    nullary main_call0_call0_call0_c_35 (constantI S_ 32 4#32),
    unary main_call0_call0_call0_c_35 main_call0_call0_call0_v140 ((broadcastInDim S64x1000000 ![] bcast_S_S64x1000000) : (⟨S_, .i32⟩ : BufTy).Contents (Elt F) → (⟨S64x1000000, .i32⟩ : BufTy).Contents (Elt F)),
    binary main_call0_call0_call0_v139 main_call0_call0_call0_v140 main_call0_call0_call0_v141 (addi : (⟨S64x1000000, .i32⟩ : BufTy).Contents (Elt F) → (⟨S64x1000000, .i32⟩ : BufTy).Contents (Elt F) → (⟨S64x1000000, .i32⟩ : BufTy).Contents (Elt F)),
    binary main_call0_call0_call0_v137 main_call0_call0_call0_v141 main_call0_call0_call0_v142 (addi : (⟨S64x1000000, .i32⟩ : BufTy).Contents (Elt F) → (⟨S64x1000000, .i32⟩ : BufTy).Contents (Elt F) → (⟨S64x1000000, .i32⟩ : BufTy).Contents (Elt F)) ]

abbrev t16W : List (Ref sig .tc) :=
  [main_call0_call0_call0_c_33, main_call0_call0_call0_v130, main_call0_call0_call0_v131, main_call0_call0_call0_c_34, main_call0_call0_call0_v132, main_call0_call0_call0_v133, main_call0_call0_call0_v134, main_call0_call0_call0_v135, main_call0_call0_call0_v136, main_call0_call0_call0_v137, main_call0_call0_call0_v138, main_call0_call0_call0_v139, main_call0_call0_call0_c_35, main_call0_call0_call0_v140, main_call0_call0_call0_v141, main_call0_call0_call0_v142]

theorem t16_writes : (t16 (F := F)).map HloOp.writes = t16W.map fun w => {Proc.devRef (τ := τ) .tc w} := rfl

theorem t16_fresh : (t16 (F := F)).map HloOp.fresh = (t16 (F := F)).map fun _ => (∅ : Finset (DevRef τ sig)) := rfl

theorem t16_sub : (t16 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

abbrev t17 : List (HloOp τ sig (Elt F)) :=
  [ nullary main_call0_call0_call0_c_36 (constantI S_ 32 13#32),
    unary main_call0_call0_call0_c_36 main_call0_call0_call0_v143 ((broadcastInDim S64x1000000 ![] bcast_S_S64x1000000) : (⟨S_, .i32⟩ : BufTy).Contents (Elt F) → (⟨S64x1000000, .i32⟩ : BufTy).Contents (Elt F)),
    binary main_call0_call0_call0_v141 main_call0_call0_call0_v143 main_call0_call0_call0_v144 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_37 (constantI S_ 32 19#32),
    unary main_call0_call0_call0_c_37 main_call0_call0_call0_v145 ((broadcastInDim S64x1000000 ![] bcast_S_S64x1000000) : (⟨S_, .i32⟩ : BufTy).Contents (Elt F) → (⟨S64x1000000, .i32⟩ : BufTy).Contents (Elt F)),
    binary main_call0_call0_call0_v141 main_call0_call0_call0_v145 main_call0_call0_call0_v146 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v144 main_call0_call0_call0_v146 main_call0_call0_call0_v147 (ori : (⟨S64x1000000, .i32⟩ : BufTy).Contents (Elt F) → (⟨S64x1000000, .i32⟩ : BufTy).Contents (Elt F) → (⟨S64x1000000, .i32⟩ : BufTy).Contents (Elt F)),
    binary main_call0_call0_call0_v142 main_call0_call0_call0_v147 main_call0_call0_call0_v148 (xori : (⟨S64x1000000, .i32⟩ : BufTy).Contents (Elt F) → (⟨S64x1000000, .i32⟩ : BufTy).Contents (Elt F) → (⟨S64x1000000, .i32⟩ : BufTy).Contents (Elt F)),
    binary main_call0_call0_call0_v142 main_call0_call0_call0_v148 main_call0_call0_call0_v149 (addi : (⟨S64x1000000, .i32⟩ : BufTy).Contents (Elt F) → (⟨S64x1000000, .i32⟩ : BufTy).Contents (Elt F) → (⟨S64x1000000, .i32⟩ : BufTy).Contents (Elt F)) ]

abbrev t17W : List (Ref sig .tc) :=
  [main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149]

theorem t17_writes : (t17 (F := F)).map HloOp.writes = t17W.map fun w => {Proc.devRef (τ := τ) .tc w} := rfl

theorem t17_fresh : (t17 (F := F)).map HloOp.fresh = (t17 (F := F)).map fun _ => (∅ : Finset (DevRef τ sig)) := rfl

theorem t17_sub : (t17 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t18 : List (HloOp τ sig (Elt F)) :=
  [ nullary main_call0_call0_call0_c_38 (constantI S_ 32 15#32),
    unary main_call0_call0_call0_c_38 main_call0_call0_call0_v150 ((broadcastInDim S64x1000000 ![] bcast_S_S64x1000000) : (⟨S_, .i32⟩ : BufTy).Contents (Elt F) → (⟨S64x1000000, .i32⟩ : BufTy).Contents (Elt F)),
    binary main_call0_call0_call0_v148 main_call0_call0_call0_v150 main_call0_call0_call0_v151 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_39 (constantI S_ 32 17#32),
    unary main_call0_call0_call0_c_39 main_call0_call0_call0_v152 ((broadcastInDim S64x1000000 ![] bcast_S_S64x1000000) : (⟨S_, .i32⟩ : BufTy).Contents (Elt F) → (⟨S64x1000000, .i32⟩ : BufTy).Contents (Elt F)),
    binary main_call0_call0_call0_v148 main_call0_call0_call0_v152 main_call0_call0_call0_v153 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v151 main_call0_call0_call0_v153 main_call0_call0_call0_v154 (ori : (⟨S64x1000000, .i32⟩ : BufTy).Contents (Elt F) → (⟨S64x1000000, .i32⟩ : BufTy).Contents (Elt F) → (⟨S64x1000000, .i32⟩ : BufTy).Contents (Elt F)),
    binary main_call0_call0_call0_v149 main_call0_call0_call0_v154 main_call0_call0_call0_v155 (xori : (⟨S64x1000000, .i32⟩ : BufTy).Contents (Elt F) → (⟨S64x1000000, .i32⟩ : BufTy).Contents (Elt F) → (⟨S64x1000000, .i32⟩ : BufTy).Contents (Elt F)),
    binary main_call0_call0_call0_v149 main_call0_call0_call0_v155 main_call0_call0_call0_v156 (addi : (⟨S64x1000000, .i32⟩ : BufTy).Contents (Elt F) → (⟨S64x1000000, .i32⟩ : BufTy).Contents (Elt F) → (⟨S64x1000000, .i32⟩ : BufTy).Contents (Elt F)) ]

abbrev t18W : List (Ref sig .tc) :=
  [main_call0_call0_call0_c_38, main_call0_call0_call0_v150, main_call0_call0_call0_v151, main_call0_call0_call0_c_39, main_call0_call0_call0_v152, main_call0_call0_call0_v153, main_call0_call0_call0_v154, main_call0_call0_call0_v155, main_call0_call0_call0_v156]

theorem t18_writes : (t18 (F := F)).map HloOp.writes = t18W.map fun w => {Proc.devRef (τ := τ) .tc w} := rfl

theorem t18_fresh : (t18 (F := F)).map HloOp.fresh = (t18 (F := F)).map fun _ => (∅ : Finset (DevRef τ sig)) := rfl

theorem t18_sub : (t18 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t19 : List (HloOp τ sig (Elt F)) :=
  [ nullary main_call0_call0_call0_c_40 (constantI S_ 32 26#32),
    unary main_call0_call0_call0_c_40 main_call0_call0_call0_v157 ((broadcastInDim S64x1000000 ![] bcast_S_S64x1000000) : (⟨S_, .i32⟩ : BufTy).Contents (Elt F) → (⟨S64x1000000, .i32⟩ : BufTy).Contents (Elt F)),
    binary main_call0_call0_call0_v155 main_call0_call0_call0_v157 main_call0_call0_call0_v158 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_41 (constantI S_ 32 6#32),
    unary main_call0_call0_call0_c_41 main_call0_call0_call0_v159 ((broadcastInDim S64x1000000 ![] bcast_S_S64x1000000) : (⟨S_, .i32⟩ : BufTy).Contents (Elt F) → (⟨S64x1000000, .i32⟩ : BufTy).Contents (Elt F)),
    binary main_call0_call0_call0_v155 main_call0_call0_call0_v159 main_call0_call0_call0_v160 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v158 main_call0_call0_call0_v160 main_call0_call0_call0_v161 (ori : (⟨S64x1000000, .i32⟩ : BufTy).Contents (Elt F) → (⟨S64x1000000, .i32⟩ : BufTy).Contents (Elt F) → (⟨S64x1000000, .i32⟩ : BufTy).Contents (Elt F)),
    binary main_call0_call0_call0_v156 main_call0_call0_call0_v161 main_call0_call0_call0_v162 (xori : (⟨S64x1000000, .i32⟩ : BufTy).Contents (Elt F) → (⟨S64x1000000, .i32⟩ : BufTy).Contents (Elt F) → (⟨S64x1000000, .i32⟩ : BufTy).Contents (Elt F)),
    binary main_call0_call0_call0_v156 main_call0_call0_call0_v162 main_call0_call0_call0_v163 (addi : (⟨S64x1000000, .i32⟩ : BufTy).Contents (Elt F) → (⟨S64x1000000, .i32⟩ : BufTy).Contents (Elt F) → (⟨S64x1000000, .i32⟩ : BufTy).Contents (Elt F)) ]

abbrev t19W : List (Ref sig .tc) :=
  [main_call0_call0_call0_c_40, main_call0_call0_call0_v157, main_call0_call0_call0_v158, main_call0_call0_call0_c_41, main_call0_call0_call0_v159, main_call0_call0_call0_v160, main_call0_call0_call0_v161, main_call0_call0_call0_v162, main_call0_call0_call0_v163]

theorem t19_writes : (t19 (F := F)).map HloOp.writes = t19W.map fun w => {Proc.devRef (τ := τ) .tc w} := rfl

theorem t19_fresh : (t19 (F := F)).map HloOp.fresh = (t19 (F := F)).map fun _ => (∅ : Finset (DevRef τ sig)) := rfl

theorem t19_sub : (t19 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub ..⟩

abbrev t20 : List (HloOp τ sig (Elt F)) :=
  [ nullary main_call0_call0_call0_c_42 (constantI S_ 32 6#32),
    unary main_call0_call0_call0_c_42 main_call0_call0_call0_v164 ((broadcastInDim S64x1000000 ![] bcast_S_S64x1000000) : (⟨S_, .i32⟩ : BufTy).Contents (Elt F) → (⟨S64x1000000, .i32⟩ : BufTy).Contents (Elt F)),
    binary main_call0_call0_call0_v162 main_call0_call0_call0_v164 main_call0_call0_call0_v165 (Host.shli : (⟨S64x1000000, .i32⟩ : BufTy).Contents (Elt F) → (⟨S64x1000000, .i32⟩ : BufTy).Contents (Elt F) → (⟨S64x1000000, .i32⟩ : BufTy).Contents (Elt F)),
    nullary main_call0_call0_call0_c_43 (constantI S_ 32 26#32),
    unary main_call0_call0_call0_c_43 main_call0_call0_call0_v166 ((broadcastInDim S64x1000000 ![] bcast_S_S64x1000000) : (⟨S_, .i32⟩ : BufTy).Contents (Elt F) → (⟨S64x1000000, .i32⟩ : BufTy).Contents (Elt F)),
    binary main_call0_call0_call0_v162 main_call0_call0_call0_v166 main_call0_call0_call0_v167 (Host.shrui : (⟨S64x1000000, .i32⟩ : BufTy).Contents (Elt F) → (⟨S64x1000000, .i32⟩ : BufTy).Contents (Elt F) → (⟨S64x1000000, .i32⟩ : BufTy).Contents (Elt F)),
    binary main_call0_call0_call0_v165 main_call0_call0_call0_v167 main_call0_call0_call0_v168 (ori : (⟨S64x1000000, .i32⟩ : BufTy).Contents (Elt F) → (⟨S64x1000000, .i32⟩ : BufTy).Contents (Elt F) → (⟨S64x1000000, .i32⟩ : BufTy).Contents (Elt F)),
    binary main_call0_call0_call0_v163 main_call0_call0_call0_v168 main_call0_call0_call0_v169 (xori : (⟨S64x1000000, .i32⟩ : BufTy).Contents (Elt F) → (⟨S64x1000000, .i32⟩ : BufTy).Contents (Elt F) → (⟨S64x1000000, .i32⟩ : BufTy).Contents (Elt F)),
    unary main_call0_call0_call0_v1 main_call0_call0_call0_v170 ((broadcastInDim S64x1000000 ![] bcast_S_S64x1000000) : (⟨S_, .i32⟩ : BufTy).Contents (Elt F) → (⟨S64x1000000, .i32⟩ : BufTy).Contents (Elt F)),
    binary main_call0_call0_call0_v163 main_call0_call0_call0_v170 main_call0_call0_v18_0 (addi : (⟨S64x1000000, .i32⟩ : BufTy).Contents (Elt F) → (⟨S64x1000000, .i32⟩ : BufTy).Contents (Elt F) → (⟨S64x1000000, .i32⟩ : BufTy).Contents (Elt F)),
    unary main_call0_call0_v4 main_call0_call0_call0_v172 ((broadcastInDim S64x1000000 ![] bcast_S_S64x1000000) : (⟨S_, .i32⟩ : BufTy).Contents (Elt F) → (⟨S64x1000000, .i32⟩ : BufTy).Contents (Elt F)),
    binary main_call0_call0_call0_v169 main_call0_call0_call0_v172 main_call0_call0_call0_v173 (addi : (⟨S64x1000000, .i32⟩ : BufTy).Contents (Elt F) → (⟨S64x1000000, .i32⟩ : BufTy).Contents (Elt F) → (⟨S64x1000000, .i32⟩ : BufTy).Contents (Elt F)),
    nullary main_call0_call0_call0_c_44 (constantI S_ 32 5#32),
    unary main_call0_call0_call0_c_44 main_call0_call0_call0_v174 ((broadcastInDim S64x1000000 ![] bcast_S_S64x1000000) : (⟨S_, .i32⟩ : BufTy).Contents (Elt F) → (⟨S64x1000000, .i32⟩ : BufTy).Contents (Elt F)),
    binary main_call0_call0_call0_v173 main_call0_call0_call0_v174 main_call0_call0_v18_1 (addi : (⟨S64x1000000, .i32⟩ : BufTy).Contents (Elt F) → (⟨S64x1000000, .i32⟩ : BufTy).Contents (Elt F) → (⟨S64x1000000, .i32⟩ : BufTy).Contents (Elt F)) ]

abbrev t20W : List (Ref sig .tc) :=
  [main_call0_call0_call0_c_42, main_call0_call0_call0_v164, main_call0_call0_call0_v165, main_call0_call0_call0_c_43, main_call0_call0_call0_v166, main_call0_call0_call0_v167, main_call0_call0_call0_v168, main_call0_call0_call0_v169, main_call0_call0_call0_v170, main_call0_call0_v18_0, main_call0_call0_call0_v172, main_call0_call0_call0_v173, main_call0_call0_call0_c_44, main_call0_call0_call0_v174, main_call0_call0_v18_1]

theorem t20_writes : (t20 (F := F)).map HloOp.writes = t20W.map fun w => {Proc.devRef (τ := τ) .tc w} := rfl

theorem t20_fresh : (t20 (F := F)).map HloOp.fresh = (t20 (F := F)).map fun _ => (∅ : Finset (DevRef τ sig)) := rfl

theorem t20_sub : (t20 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

abbrev fin : List (HloOp τ sig (Elt F)) :=
  [ binary main_call0_call0_v18_0 main_call0_call0_v18_1 main_call0_call0_v19 (xori : (⟨S64x1000000, .i32⟩ : BufTy).Contents (Elt F) → (⟨S64x1000000, .i32⟩ : BufTy).Contents (Elt F) → (⟨S64x1000000, .i32⟩ : BufTy).Contents (Elt F)),
    nullary main_call0_call0_c_2 (constantI S_ 32 9#32),
    unary main_call0_call0_c_2 main_call0_call0_v20 ((broadcastInDim S64x1000000 ![] bcast_S_S64x1000000) : (⟨S_, .i32⟩ : BufTy).Contents (Elt F) → (⟨S64x1000000, .i32⟩ : BufTy).Contents (Elt F)),
    binary main_call0_call0_v19 main_call0_call0_v20 main_call0_call0_v21 (Host.shrui : (⟨S64x1000000, .i32⟩ : BufTy).Contents (Elt F) → (⟨S64x1000000, .i32⟩ : BufTy).Contents (Elt F) → (⟨S64x1000000, .i32⟩ : BufTy).Contents (Elt F)),
    nullary main_call0_call0_c_3 (constantI S_ 32 1065353216#32),
    unary main_call0_call0_c_3 main_call0_call0_v22 ((broadcastInDim S64x1000000 ![] bcast_S_S64x1000000) : (⟨S_, .i32⟩ : BufTy).Contents (Elt F) → (⟨S64x1000000, .i32⟩ : BufTy).Contents (Elt F)),
    binary main_call0_call0_v21 main_call0_call0_v22 main_call0_call0_v23 (ori : (⟨S64x1000000, .i32⟩ : BufTy).Contents (Elt F) → (⟨S64x1000000, .i32⟩ : BufTy).Contents (Elt F) → (⟨S64x1000000, .i32⟩ : BufTy).Contents (Elt F)),
    unary main_call0_call0_v23 main_call0_call0_v24 ((bitcastToFloat .f32) : (⟨S64x1000000, .i32⟩ : BufTy).Contents (Elt F) → (⟨S64x1000000, .f32⟩ : BufTy).Contents (Elt F)),
    nullary main_call0_call0_cst (constant S_ .f32 0x3F800000#32),
    unary main_call0_call0_cst main_call0_call0_v25 ((broadcastInDim S64x1000000 ![] bcast_S_S64x1000000) : (⟨S_, .f32⟩ : BufTy).Contents (Elt F) → (⟨S64x1000000, .f32⟩ : BufTy).Contents (Elt F)),
    binary main_call0_call0_v24 main_call0_call0_v25 main_call0_call0_v26 (subf : (⟨S64x1000000, .f32⟩ : BufTy).Contents (Elt F) → (⟨S64x1000000, .f32⟩ : BufTy).Contents (Elt F) → (⟨S64x1000000, .f32⟩ : BufTy).Contents (Elt F)),
    binary main_call0_call0_v2 main_call0_call0_v1 main_call0_call0_v27 (subf : (⟨S1x1, .f32⟩ : BufTy).Contents (Elt F) → (⟨S1x1, .f32⟩ : BufTy).Contents (Elt F) → (⟨S1x1, .f32⟩ : BufTy).Contents (Elt F)),
    unary main_call0_call0_v27 main_call0_call0_v28 ((broadcastInDim S64x1000000 ![0, 1] bcast_S1x1_S64x1000000_0_1) : (⟨S1x1, .f32⟩ : BufTy).Contents (Elt F) → (⟨S64x1000000, .f32⟩ : BufTy).Contents (Elt F)),
    binary main_call0_call0_v26 main_call0_call0_v28 main_call0_call0_v29 (mulf : (⟨S64x1000000, .f32⟩ : BufTy).Contents (Elt F) → (⟨S64x1000000, .f32⟩ : BufTy).Contents (Elt F) → (⟨S64x1000000, .f32⟩ : BufTy).Contents (Elt F)),
    unary main_call0_call0_v1 main_call0_call0_v30 ((broadcastInDim S64x1000000 ![0, 1] bcast_S1x1_S64x1000000_0_1) : (⟨S1x1, .f32⟩ : BufTy).Contents (Elt F) → (⟨S64x1000000, .f32⟩ : BufTy).Contents (Elt F)),
    binary main_call0_call0_v29 main_call0_call0_v30 main_call0_call0_v31 (addf : (⟨S64x1000000, .f32⟩ : BufTy).Contents (Elt F) → (⟨S64x1000000, .f32⟩ : BufTy).Contents (Elt F) → (⟨S64x1000000, .f32⟩ : BufTy).Contents (Elt F)),
    unary main_call0_call0_v1 main_call0_call0_v32 ((broadcastInDim S64x1000000 ![0, 1] bcast_S1x1_S64x1000000_0_1) : (⟨S1x1, .f32⟩ : BufTy).Contents (Elt F) → (⟨S64x1000000, .f32⟩ : BufTy).Contents (Elt F)),
    binary main_call0_call0_v32 main_call0_call0_v31 main_call0_v0 (maximumf : (⟨S64x1000000, .f32⟩ : BufTy).Contents (Elt F) → (⟨S64x1000000, .f32⟩ : BufTy).Contents (Elt F) → (⟨S64x1000000, .f32⟩ : BufTy).Contents (Elt F)),
    unary main_call0_v0 main_call0_v1 (Host.log : (⟨S64x1000000, .f32⟩ : BufTy).Contents (Elt F) → (⟨S64x1000000, .f32⟩ : BufTy).Contents (Elt F)),
    unary main_call0_v1 main_call0_v2 (Host.negf : (⟨S64x1000000, .f32⟩ : BufTy).Contents (Elt F) → (⟨S64x1000000, .f32⟩ : BufTy).Contents (Elt F)),
    unary main_call0_v2 main_call0_v3 (Host.log : (⟨S64x1000000, .f32⟩ : BufTy).Contents (Elt F) → (⟨S64x1000000, .f32⟩ : BufTy).Contents (Elt F)),
    unary main_call0_v3 main_v7 (Host.negf : (⟨S64x1000000, .f32⟩ : BufTy).Contents (Elt F) → (⟨S64x1000000, .f32⟩ : BufTy).Contents (Elt F)),
    binary main_v7 main_arg0 main_v8 (addf : (⟨S64x1000000, .f32⟩ : BufTy).Contents (Elt F) → (⟨S64x1000000, .f32⟩ : BufTy).Contents (Elt F) → (⟨S64x1000000, .f32⟩ : BufTy).Contents (Elt F)),
    nullary main_call1_v0 (iotaInDim S64x1000000 32 1),
    nullary main_call1_cst (constant S_ .f32 0xFF800000#32),
    nullary main_call1_c (constantI S_ 32 0#32),
    quaternary main_v8 main_call1_v0 main_call1_cst main_call1_c main_call1_v1_0 ((fun x y u v j => (Host.argReduce reducer_argmax_f32_i32 x y u v reducesTo_S64x1000000_S64_d1 h_S_ j).1) : (⟨S64x1000000, .f32⟩ : BufTy).Contents (Elt F) → (⟨S64x1000000, .i32⟩ : BufTy).Contents (Elt F) → (⟨S_, .f32⟩ : BufTy).Contents (Elt F) → (⟨S_, .i32⟩ : BufTy).Contents (Elt F) → (⟨S64, .f32⟩ : BufTy).Contents (Elt F)),
    quaternary main_v8 main_call1_v0 main_call1_cst main_call1_c main_v9 ((fun x y u v j => (Host.argReduce reducer_argmax_f32_i32 x y u v reducesTo_S64x1000000_S64_d1 h_S_ j).2) : (⟨S64x1000000, .f32⟩ : BufTy).Contents (Elt F) → (⟨S64x1000000, .i32⟩ : BufTy).Contents (Elt F) → (⟨S_, .f32⟩ : BufTy).Contents (Elt F) → (⟨S_, .i32⟩ : BufTy).Contents (Elt F) → (⟨S64, .i32⟩ : BufTy).Contents (Elt F)) ]

abbrev finW : List (Ref sig .tc) :=
  [main_call0_call0_v19, main_call0_call0_c_2, main_call0_call0_v20, main_call0_call0_v21, main_call0_call0_c_3, main_call0_call0_v22, main_call0_call0_v23, main_call0_call0_v24, main_call0_call0_cst, main_call0_call0_v25, main_call0_call0_v26, main_call0_call0_v27, main_call0_call0_v28, main_call0_call0_v29, main_call0_call0_v30, main_call0_call0_v31, main_call0_call0_v32, main_call0_v0, main_call0_v1, main_call0_v2, main_call0_v3, main_v7, main_v8, main_call1_v0, main_call1_cst, main_call1_c, main_call1_v1_0, main_v9]

theorem fin_writes : (fin (F := F)).map HloOp.writes = finW.map fun w => {Proc.devRef (τ := τ) .tc w} := rfl

theorem fin_fresh : (fin (F := F)).map HloOp.fresh = (fin (F := F)).map fun _ => (∅ : Finset (DevRef τ sig)) := rfl

theorem fin_sub : (fin (F := F)).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub ..⟩

/-- The operations, in order. -/
abbrev ops : List (HloOp τ sig (Elt F)) :=
  pre ++ (key ++ (t1 ++ (t2 ++ (t3 ++ (t4 ++ (t5 ++ (t6 ++ (t7 ++ (t8 ++ (t9 ++ (t10 ++ (t11 ++ (t12 ++ (t13 ++ (t14 ++ (t15 ++ (t16 ++ (t17 ++ (t18 ++ (t19 ++ (t20 ++ (fin))))))))))))))))))))))

/-- @main is that straight line. -/
theorem main_eq (c : Dev nD) : main (F := F) c = seq ops := rfl

theorem ops_sub : (ops (F := F)).Forall fun op => op.bufs ⊆ tcRefs τ sig := by
  simp only [ops, List.forall_append]
  exact ⟨pre_sub, key_sub, t1_sub, t2_sub, t3_sub, t4_sub, t5_sub, t6_sub, t7_sub, t8_sub, t9_sub, t10_sub, t11_sub, t12_sub, t13_sub, t14_sub, t15_sub, t16_sub, t17_sub, t18_sub, t19_sub, t20_sub, fin_sub⟩

theorem ops_fresh : (ops (F := F)).Forall fun op => op.fresh = ∅ := by
  simp only [ops, List.forall_append]
  exact ⟨forall_fresh_of_map pre_fresh, forall_fresh_of_map key_fresh, forall_fresh_of_map t1_fresh, forall_fresh_of_map t2_fresh, forall_fresh_of_map t3_fresh, forall_fresh_of_map t4_fresh, forall_fresh_of_map t5_fresh, forall_fresh_of_map t6_fresh, forall_fresh_of_map t7_fresh, forall_fresh_of_map t8_fresh, forall_fresh_of_map t9_fresh, forall_fresh_of_map t10_fresh, forall_fresh_of_map t11_fresh, forall_fresh_of_map t12_fresh, forall_fresh_of_map t13_fresh, forall_fresh_of_map t14_fresh, forall_fresh_of_map t15_fresh, forall_fresh_of_map t16_fresh, forall_fresh_of_map t17_fresh, forall_fresh_of_map t18_fresh, forall_fresh_of_map t19_fresh, forall_fresh_of_map t20_fresh, forall_fresh_of_map fin_fresh⟩

theorem run (m : (ℓ : Loc nD τ sig) → Buf (Elt F) ℓ) (ρ : Dev nD → PrngReg) :
    θ_run defs (onTc (τ := τ) (main (F := F))) ⟨m, fun _ => 0, ρ⟩ (fun r => (∀ (d : Dev nD) (b : Ref sig .tc),
      r.2.mem ((d.tc : Thread nD τ).loc b) = after ops (launchContents m d) (Proc.devRef .tc b)) ∧ r.2.sem = fun _ => 0) :=
  (θ_run _ _ _).mono (fun r h => ⟨h, sem_eq_zero_of_no_sems rfl _⟩)
    (run_seq (by decide) (by decide) defs main (fun _ => ops) main_eq (fun _ => ops_sub) m ρ
      fun _ op h => List.forall_iff_forall_mem.1 ops_fresh op h)

end Cert.ReferenceIdeal.Pf
-- ==== Proof.RefRead.lean ====
/-
  What the reference's lines leave: the key and counter words, the pair of words after each round, and the result
  as an argmax over the noise plus the argument.
-/
module

public import proofs.«01_k».proof.Proof.Gen.ReferenceIdeal
public import proofs.«01_k».proof.Proof.Words
public import Idealize.ShloMosaic.Lib.StableHlo.Run
public import Idealize.ShloMosaic.Lib.Quiescent
public import proofs.«01_k».proof.Proof.RefOps
public import Idealize.ShloMosaic.Lib.Pipeline.Frame
public import Idealize.ShloMosaic.Lib.Pipeline.Value

@[expose] public section

set_option maxRecDepth 16384

noncomputable section

namespace Cert.ReferenceIdeal.Pf

open Cert.ReferenceIdeal Cert.ReferenceIdeal.Gen
open Idealize.ShloMosaic Idealize.ShloMosaic.TcCoe Idealize.ShloMosaic.StableHlo Idealize.SL.Sem

variable {F : FTy → Type} [FloatOps F]

open Cert.Words

/-- A word array's entry. -/
abbrev wd (x : IVec S64x1000000 32) (j : S64x1000000.Idx) : W := x j

/-- What stays put through the rounds: the key words, the two ends of the uniform range, the argument. -/
structure Keys (X : FVec F S64x1000000 .f32) (V : Valuation τ sig (Elt F)) : Prop where
  k0 : V (main_call0_call0_v4 : DevRef τ sig) = fun _ => 0#32
  k1 : V (main_call0_call0_v6 : DevRef τ sig) = fun _ => 42#32
  k2 : V (main_call0_call0_call0_v1 : DevRef τ sig) = fun _ => ks
  lo : V (main_call0_call0_v1 : DevRef τ sig) = fun _ => FloatOps.ofBits .f32 0x00800000#32
  hi : V (main_call0_call0_v2 : DevRef τ sig) = fun _ => FloatOps.ofBits .f32 0x3F800000#32
  arg : V (main_arg0 : DevRef τ sig) = X

/-- The references `Keys` reads. -/
abbrev keyRefs : List (Ref sig .tc) :=
  [main_call0_call0_v4, main_call0_call0_v6, main_call0_call0_call0_v1, main_call0_call0_v1, main_call0_call0_v2, main_arg0]

theorem Keys.keep {X : FVec F S64x1000000 .f32} {V : Valuation τ sig (Elt F)} (h : Keys X V)
    {l : List (HloOp τ sig (Elt F))} {Wr : List (Ref sig .tc)}
    (hW : l.map HloOp.writes = Wr.map fun w => {Proc.devRef (τ := τ) .tc w})
    (hn : ∀ r ∈ keyRefs, r ∉ Wr) : Keys X (after l V) := by
  have e : ∀ r ∈ keyRefs, after l V (Proc.devRef .tc r) = V (Proc.devRef .tc r) :=
    fun r hr => after_of_writes_sub l V (forall_writes_sub_of_map hW) (hn r hr)
  exact ⟨(e _ (by simp)).trans h.k0, (e _ (by simp)).trans h.k1, (e _ (by simp)).trans h.k2,
    (e _ (by simp)).trans h.lo, (e _ (by simp)).trans h.hi, (e _ (by simp)).trans h.arg⟩

/-- The one index of a one-entry array. -/
def zero1 : S1.Idx := fun d => ⟨0, (by decide : ∀ d : Fin 1, 0 < S1.size d) d⟩

theorem idx1 (k : S1.Idx) : k = zero1 := by
  funext d
  apply Fin.ext
  have h : (k d).val < S1.size d := (k d).isLt
  have e : S1.size d = 1 := (by decide : ∀ d : Fin 1, S1.size d = 1) d
  show (k d).val = 0
  omega

/-- The two words of a two-word array made of two one-word ones. -/
theorem word0 (a b : IVec S1 32) (i : S_.Idx) :
    shapeCast S_ (extractStridedSlice S1 ![0] (concatenate S2 0 [⟨S1, a⟩, ⟨S1, b⟩] concatenates_S1_S1_S2_d0) slices_S2_S1_0)
      shapeCasts_S1_S_ i = a zero1 := by
  unfold shapeCast
  rw [idx1 (Shape.reshapeEquiv shapeCasts_S1_S_ i)]
  exact concatenate_pair_apply_left (s₁ := S1) (s₂ := S1) (t := S2) 0 a b concatenates_S1_S1_S2_d0 _ rfl zero1 (by decide)

theorem word1 (a b : IVec S1 32) (i : S_.Idx) :
    shapeCast S_ (extractStridedSlice S1 ![1] (concatenate S2 0 [⟨S1, a⟩, ⟨S1, b⟩] concatenates_S1_S1_S2_d0) slices_S2_S1_1)
      shapeCasts_S1_S_ i = b zero1 := by
  unfold shapeCast
  rw [idx1 (Shape.reshapeEquiv shapeCasts_S1_S_ i)]
  exact concatenate_pair_apply_right (s₁ := S1) (s₂ := S1) (t := S2) 0 a b concatenates_S1_S1_S2_d0 _ rfl rfl zero1
    (by decide) (by decide)

theorem pre_k0 (V : Valuation τ sig (Elt F)) : after pre V (main_call0_call0_v4 : DevRef τ sig) = fun _ => 0#32 := by
  after_results
  funext i
  refine (word0 _ _ i).trans ?_
  show IntOp.shrui .host 42#32 32#32 = 0#32
  decide

theorem pre_k1 (V : Valuation τ sig (Elt F)) : after pre V (main_call0_call0_v6 : DevRef τ sig) = fun _ => 42#32 := by
  after_results
  funext i
  refine (word1 _ _ i).trans ?_
  show 42#32 &&& 4294967295#32 = 42#32
  decide

theorem pre_lo (V : Valuation τ sig (Elt F)) :
    after pre V (main_call0_call0_v1 : DevRef τ sig) = fun _ => FloatOps.ofBits .f32 0x00800000#32 := by
  after_results_simp
  rfl

theorem pre_hi (V : Valuation τ sig (Elt F)) :
    after pre V (main_call0_call0_v2 : DevRef τ sig) = fun _ => FloatOps.ofBits .f32 0x3F800000#32 := by
  after_results_simp
  rfl

theorem pre_arg (V : Valuation τ sig (Elt F)) : after pre V (main_arg0 : DevRef τ sig) = V (main_arg0 : DevRef τ sig) := by
  after_results_simp

/-- The 64-bit position of an entry. -/
def pos64 (j : S64x1000000.Idx) : BitVec 64 :=
  1000000#64 * BitVec.ofNat 64 (j 0).val + 1#64 * BitVec.ofNat 64 (j 1).val

theorem pre_c0 (V : Valuation τ sig (Elt F)) (j : S64x1000000.Idx) :
    wd (after pre V (main_call0_call0_v17 : DevRef τ sig)) j = (pos64 j >>> (32#64 : BitVec 64)).setWidth 32 := by
  after_results_simp
  rfl

theorem pre_c1 (V : Valuation τ sig (Elt F)) (j : S64x1000000.Idx) :
    wd (after pre V (main_call0_call0_v16 : DevRef τ sig)) j = (pos64 j).setWidth 32 := by
  after_results_simp
  rfl

theorem key_k2 (V : Valuation τ sig (Elt F)) (h0 : V (main_call0_call0_v4 : DevRef τ sig) = fun _ => 0#32)
    (h1 : V (main_call0_call0_v6 : DevRef τ sig) = fun _ => 42#32) : after key V (main_call0_call0_call0_v1 : DevRef τ sig) = fun _ => ks := by
  after_results_simp
  rw [h0, h1]
  funext i
  show (0#32 ^^^ 42#32) ^^^ 466688986#32 = 466689008#32
  decide

theorem key_st (V : Valuation τ sig (Elt F)) (h0 : V (main_call0_call0_v4 : DevRef τ sig) = fun _ => 0#32)
    (h1 : V (main_call0_call0_v6 : DevRef τ sig) = fun _ => 42#32) (j : S64x1000000.Idx) (lo : W)
    (hh : wd (V (main_call0_call0_v17 : DevRef τ sig)) j = 0#32) (hl : wd (V (main_call0_call0_v16 : DevRef τ sig)) j = lo) :
    (wd (after key V (main_call0_call0_call0_v6 : DevRef τ sig)) j, wd (after key V (main_call0_call0_call0_v5 : DevRef τ sig)) j) = s0 lo := by
  subst hl
  after_results_simp
  rw [h0, h1]
  show (wd (V (main_call0_call0_v17 : DevRef τ sig)) j + 0#32 + (wd (V (main_call0_call0_v16 : DevRef τ sig)) j + 42#32), _) = _
  rw [hh]
  rfl

theorem t1_st {X : FVec F S64x1000000 .f32} {V : Valuation τ sig (Elt F)} (h : Keys X V) (j : S64x1000000.Idx) {s : W × W}
    (hs : (wd (V (main_call0_call0_call0_v6 : DevRef τ sig)) j, wd (V (main_call0_call0_call0_v5 : DevRef τ sig)) j) = s) :
    (wd (after t1 V (main_call0_call0_call0_v13 : DevRef τ sig)) j,
      wd (after t1 V (main_call0_call0_call0_v12 : DevRef τ sig)) j) = q 13#32 19#32 s := by
  subst hs
  after_results_simp
  rfl

theorem t2_st {X : FVec F S64x1000000 .f32} {V : Valuation τ sig (Elt F)} (h : Keys X V) (j : S64x1000000.Idx) {s : W × W}
    (hs : (wd (V (main_call0_call0_call0_v13 : DevRef τ sig)) j, wd (V (main_call0_call0_call0_v12 : DevRef τ sig)) j) = s) :
    (wd (after t2 V (main_call0_call0_call0_v20 : DevRef τ sig)) j,
      wd (after t2 V (main_call0_call0_call0_v19 : DevRef τ sig)) j) = q 15#32 17#32 s := by
  subst hs
  after_results_simp
  rfl

theorem t3_st {X : FVec F S64x1000000 .f32} {V : Valuation τ sig (Elt F)} (h : Keys X V) (j : S64x1000000.Idx) {s : W × W}
    (hs : (wd (V (main_call0_call0_call0_v20 : DevRef τ sig)) j, wd (V (main_call0_call0_call0_v19 : DevRef τ sig)) j) = s) :
    (wd (after t3 V (main_call0_call0_call0_v27 : DevRef τ sig)) j,
      wd (after t3 V (main_call0_call0_call0_v26 : DevRef τ sig)) j) = q 26#32 6#32 s := by
  subst hs
  after_results_simp
  rfl

theorem t4_st {X : FVec F S64x1000000 .f32} {V : Valuation τ sig (Elt F)} (h : Keys X V) (j : S64x1000000.Idx) {s : W × W}
    (hs : (wd (V (main_call0_call0_call0_v27 : DevRef τ sig)) j, wd (V (main_call0_call0_call0_v26 : DevRef τ sig)) j) = s) :
    (wd (after t4 V (main_call0_call0_call0_v40 : DevRef τ sig)) j,
      wd (after t4 V (main_call0_call0_call0_v39 : DevRef τ sig)) j) = qk 6#32 26#32 (42#32) (ks) 1#32 s := by
  subst hs
  after_results_simp
  rw [h.k1, h.k2]
  rfl

theorem t5_st {X : FVec F S64x1000000 .f32} {V : Valuation τ sig (Elt F)} (h : Keys X V) (j : S64x1000000.Idx) {s : W × W}
    (hs : (wd (V (main_call0_call0_call0_v40 : DevRef τ sig)) j, wd (V (main_call0_call0_call0_v39 : DevRef τ sig)) j) = s) :
    (wd (after t5 V (main_call0_call0_call0_v47 : DevRef τ sig)) j,
      wd (after t5 V (main_call0_call0_call0_v46 : DevRef τ sig)) j) = q 17#32 15#32 s := by
  subst hs
  after_results_simp
  rfl

theorem t6_st {X : FVec F S64x1000000 .f32} {V : Valuation τ sig (Elt F)} (h : Keys X V) (j : S64x1000000.Idx) {s : W × W}
    (hs : (wd (V (main_call0_call0_call0_v47 : DevRef τ sig)) j, wd (V (main_call0_call0_call0_v46 : DevRef τ sig)) j) = s) :
    (wd (after t6 V (main_call0_call0_call0_v54 : DevRef τ sig)) j,
      wd (after t6 V (main_call0_call0_call0_v53 : DevRef τ sig)) j) = q 29#32 3#32 s := by
  subst hs
  after_results_simp
  rfl

theorem t7_st {X : FVec F S64x1000000 .f32} {V : Valuation τ sig (Elt F)} (h : Keys X V) (j : S64x1000000.Idx) {s : W × W}
    (hs : (wd (V (main_call0_call0_call0_v54 : DevRef τ sig)) j, wd (V (main_call0_call0_call0_v53 : DevRef τ sig)) j) = s) :
    (wd (after t7 V (main_call0_call0_call0_v61 : DevRef τ sig)) j,
      wd (after t7 V (main_call0_call0_call0_v60 : DevRef τ sig)) j) = q 16#32 16#32 s := by
  subst hs
  after_results_simp
  rfl

theorem t8_st {X : FVec F S64x1000000 .f32} {V : Valuation τ sig (Elt F)} (h : Keys X V) (j : S64x1000000.Idx) {s : W × W}
    (hs : (wd (V (main_call0_call0_call0_v61 : DevRef τ sig)) j, wd (V (main_call0_call0_call0_v60 : DevRef τ sig)) j) = s) :
    (wd (after t8 V (main_call0_call0_call0_v74 : DevRef τ sig)) j,
      wd (after t8 V (main_call0_call0_call0_v73 : DevRef τ sig)) j) = qk 24#32 8#32 (ks) (0#32) 2#32 s := by
  subst hs
  after_results_simp
  rw [h.k2, h.k0]
  rfl

theorem t9_st {X : FVec F S64x1000000 .f32} {V : Valuation τ sig (Elt F)} (h : Keys X V) (j : S64x1000000.Idx) {s : W × W}
    (hs : (wd (V (main_call0_call0_call0_v74 : DevRef τ sig)) j, wd (V (main_call0_call0_call0_v73 : DevRef τ sig)) j) = s) :
    (wd (after t9 V (main_call0_call0_call0_v81 : DevRef τ sig)) j,
      wd (after t9 V (main_call0_call0_call0_v80 : DevRef τ sig)) j) = q 13#32 19#32 s := by
  subst hs
  after_results_simp
  rfl

theorem t10_st {X : FVec F S64x1000000 .f32} {V : Valuation τ sig (Elt F)} (h : Keys X V) (j : S64x1000000.Idx) {s : W × W}
    (hs : (wd (V (main_call0_call0_call0_v81 : DevRef τ sig)) j, wd (V (main_call0_call0_call0_v80 : DevRef τ sig)) j) = s) :
    (wd (after t10 V (main_call0_call0_call0_v88 : DevRef τ sig)) j,
      wd (after t10 V (main_call0_call0_call0_v87 : DevRef τ sig)) j) = q 15#32 17#32 s := by
  subst hs
  after_results_simp
  rfl

theorem t11_st {X : FVec F S64x1000000 .f32} {V : Valuation τ sig (Elt F)} (h : Keys X V) (j : S64x1000000.Idx) {s : W × W}
    (hs : (wd (V (main_call0_call0_call0_v88 : DevRef τ sig)) j, wd (V (main_call0_call0_call0_v87 : DevRef τ sig)) j) = s) :
    (wd (after t11 V (main_call0_call0_call0_v95 : DevRef τ sig)) j,
      wd (after t11 V (main_call0_call0_call0_v94 : DevRef τ sig)) j) = q 26#32 6#32 s := by
  subst hs
  after_results_simp
  rfl

theorem t12_st {X : FVec F S64x1000000 .f32} {V : Valuation τ sig (Elt F)} (h : Keys X V) (j : S64x1000000.Idx) {s : W × W}
    (hs : (wd (V (main_call0_call0_call0_v95 : DevRef τ sig)) j, wd (V (main_call0_call0_call0_v94 : DevRef τ sig)) j) = s) :
    (wd (after t12 V (main_call0_call0_call0_v108 : DevRef τ sig)) j,
      wd (after t12 V (main_call0_call0_call0_v107 : DevRef τ sig)) j) = qk 6#32 26#32 (0#32) (42#32) 3#32 s := by
  subst hs
  after_results_simp
  rw [h.k0, h.k1]
  rfl

theorem t13_st {X : FVec F S64x1000000 .f32} {V : Valuation τ sig (Elt F)} (h : Keys X V) (j : S64x1000000.Idx) {s : W × W}
    (hs : (wd (V (main_call0_call0_call0_v108 : DevRef τ sig)) j, wd (V (main_call0_call0_call0_v107 : DevRef τ sig)) j) = s) :
    (wd (after t13 V (main_call0_call0_call0_v115 : DevRef τ sig)) j,
      wd (after t13 V (main_call0_call0_call0_v114 : DevRef τ sig)) j) = q 17#32 15#32 s := by
  subst hs
  after_results_simp
  rfl

theorem t14_st {X : FVec F S64x1000000 .f32} {V : Valuation τ sig (Elt F)} (h : Keys X V) (j : S64x1000000.Idx) {s : W × W}
    (hs : (wd (V (main_call0_call0_call0_v115 : DevRef τ sig)) j, wd (V (main_call0_call0_call0_v114 : DevRef τ sig)) j) = s) :
    (wd (after t14 V (main_call0_call0_call0_v122 : DevRef τ sig)) j,
      wd (after t14 V (main_call0_call0_call0_v121 : DevRef τ sig)) j) = q 29#32 3#32 s := by
  subst hs
  after_results_simp
  rfl

theorem t15_st {X : FVec F S64x1000000 .f32} {V : Valuation τ sig (Elt F)} (h : Keys X V) (j : S64x1000000.Idx) {s : W × W}
    (hs : (wd (V (main_call0_call0_call0_v122 : DevRef τ sig)) j, wd (V (main_call0_call0_call0_v121 : DevRef τ sig)) j) = s) :
    (wd (after t15 V (main_call0_call0_call0_v129 : DevRef τ sig)) j,
      wd (after t15 V (main_call0_call0_call0_v128 : DevRef τ sig)) j) = q 16#32 16#32 s := by
  subst hs
  after_results_simp
  rfl

theorem t16_st {X : FVec F S64x1000000 .f32} {V : Valuation τ sig (Elt F)} (h : Keys X V) (j : S64x1000000.Idx) {s : W × W}
    (hs : (wd (V (main_call0_call0_call0_v129 : DevRef τ sig)) j, wd (V (main_call0_call0_call0_v128 : DevRef τ sig)) j) = s) :
    (wd (after t16 V (main_call0_call0_call0_v142 : DevRef τ sig)) j,
      wd (after t16 V (main_call0_call0_call0_v141 : DevRef τ sig)) j) = qk 24#32 8#32 (42#32) (ks) 4#32 s := by
  subst hs
  after_results_simp
  rw [h.k1, h.k2]
  rfl

theorem t17_st {X : FVec F S64x1000000 .f32} {V : Valuation τ sig (Elt F)} (h : Keys X V) (j : S64x1000000.Idx) {s : W × W}
    (hs : (wd (V (main_call0_call0_call0_v142 : DevRef τ sig)) j, wd (V (main_call0_call0_call0_v141 : DevRef τ sig)) j) = s) :
    (wd (after t17 V (main_call0_call0_call0_v149 : DevRef τ sig)) j,
      wd (after t17 V (main_call0_call0_call0_v148 : DevRef τ sig)) j) = q 13#32 19#32 s := by
  subst hs
  after_results_simp
  rfl

theorem t18_st {X : FVec F S64x1000000 .f32} {V : Valuation τ sig (Elt F)} (h : Keys X V) (j : S64x1000000.Idx) {s : W × W}
    (hs : (wd (V (main_call0_call0_call0_v149 : DevRef τ sig)) j, wd (V (main_call0_call0_call0_v148 : DevRef τ sig)) j) = s) :
    (wd (after t18 V (main_call0_call0_call0_v156 : DevRef τ sig)) j,
      wd (after t18 V (main_call0_call0_call0_v155 : DevRef τ sig)) j) = q 15#32 17#32 s := by
  subst hs
  after_results_simp
  rfl

theorem t19_st {X : FVec F S64x1000000 .f32} {V : Valuation τ sig (Elt F)} (h : Keys X V) (j : S64x1000000.Idx) {s : W × W}
    (hs : (wd (V (main_call0_call0_call0_v156 : DevRef τ sig)) j, wd (V (main_call0_call0_call0_v155 : DevRef τ sig)) j) = s) :
    (wd (after t19 V (main_call0_call0_call0_v163 : DevRef τ sig)) j,
      wd (after t19 V (main_call0_call0_call0_v162 : DevRef τ sig)) j) = q 26#32 6#32 s := by
  subst hs
  after_results_simp
  rfl

theorem t20_st {X : FVec F S64x1000000 .f32} {V : Valuation τ sig (Elt F)} (h : Keys X V) (j : S64x1000000.Idx) {s : W × W}
    (hs : (wd (V (main_call0_call0_call0_v163 : DevRef τ sig)) j, wd (V (main_call0_call0_call0_v162 : DevRef τ sig)) j) = s) :
    (wd (after t20 V (main_call0_call0_v18_0 : DevRef τ sig)) j,
      wd (after t20 V (main_call0_call0_v18_1 : DevRef τ sig)) j) = qe 6#32 26#32 (ks) (0#32) 5#32 s := by
  subst hs
  after_results_simp
  rw [h.k2, h.k0]
  rfl

/-- The noise at given random bits, over any float values. -/
def gumF (w : W) : F .f32 :=
  FloatOps.hostNegf (FloatOps.hostUnary .log (FloatOps.hostNegf (FloatOps.hostUnary .log
    (FloatOps.maximumf (FloatOps.ofBits .f32 0x00800000#32)
      (FloatOps.addf (FloatOps.mulf
          (FloatOps.subf (FloatOps.ofBits .f32 ((w >>> (9#32 : W)) ||| 1065353216#32)) (FloatOps.ofBits .f32 0x3F800000#32))
          (FloatOps.subf (FloatOps.ofBits .f32 0x3F800000#32) (FloatOps.ofBits .f32 0x00800000#32)))
        (FloatOps.ofBits .f32 0x00800000#32))))))

/-- The scores: noise plus argument. -/
def scores (X : FVec F S64x1000000 .f32) : FVec F S64x1000000 .f32 :=
  fun j => FloatOps.addf (gumF (bits (pos (j 0).val (j 1).val))) (X j)

/-- The index part of an argmax along the rows. -/
def argOf (x : FVec F S64x1000000 .f32) : IVec S64 32 :=
  fun j => (Host.argReduce reducer_argmax_f32_i32 x (iotaInDim S64x1000000 32 1) (constant S_ .f32 0xFF800000#32)
    (constantI S_ 32 0#32) reducesTo_S64x1000000_S64_d1 h_S_ j).2

theorem fin_noise {X : FVec F S64x1000000 .f32} {V : Valuation τ sig (Elt F)} (h : Keys X V) (w : S64x1000000.Idx → W)
    (hs : ∀ j, wd (V (main_call0_call0_v18_0 : DevRef τ sig)) j ^^^ wd (V (main_call0_call0_v18_1 : DevRef τ sig)) j = w j) :
    after fin V (main_v8 : DevRef τ sig) = fun j => FloatOps.addf (gumF (w j)) (X j) := by
  obtain rfl : (fun j => wd (V (main_call0_call0_v18_0 : DevRef τ sig)) j ^^^ wd (V (main_call0_call0_v18_1 : DevRef τ sig)) j) = w := funext hs
  after_results_simp
  rw [h.lo, h.hi, h.arg]
  rfl

theorem fin_arg (V : Valuation τ sig (Elt F)) :
    after fin V (main_v9 : DevRef τ sig) = argOf (after fin V (main_v8 : DevRef τ sig)) := by
  after_results_simp
  rfl

theorem pos64_toNat (j : S64x1000000.Idx) : (pos64 j).toNat = 1000000 * (j 0).val + (j 1).val := by
  have h0 : (j 0).val < 64 := (j 0).isLt
  have h1 : (j 1).val < 1000000 := (j 1).isLt
  simp only [pos64, BitVec.toNat_add, BitVec.toNat_mul, BitVec.toNat_ofNat]
  omega

theorem pos64_hi (j : S64x1000000.Idx) : (pos64 j >>> (32#64 : BitVec 64)).setWidth 32 = 0#32 := by
  have h0 : (j 0).val < 64 := (j 0).isLt
  have h1 : (j 1).val < 1000000 := (j 1).isLt
  apply BitVec.eq_of_toNat_eq
  rw [BitVec.toNat_setWidth, BitVec.ushiftRight_eq', BitVec.toNat_ushiftRight, pos64_toNat,
    show (32#64 : BitVec 64).toNat = 32 from rfl, Nat.shiftRight_eq_div_pow,
    Nat.div_eq_of_lt (show 1000000 * (j 0).val + (j 1).val < 2 ^ 32 by omega)]
  rfl

theorem pos64_lo (j : S64x1000000.Idx) : (pos64 j).setWidth 32 = pos (j 0).val (j 1).val := by
  apply BitVec.eq_of_toNat_eq
  rw [BitVec.toNat_setWidth, pos64_toNat, pos, BitVec.toNat_ofNat, Nat.mul_comm]

/-- The contents after the key and counters. -/
def U0 (V : Valuation τ sig (Elt F)) : Valuation τ sig (Elt F) := after key (after pre V)
def U1 (V : Valuation τ sig (Elt F)) : Valuation τ sig (Elt F) := after t1 (U0 V)
def U2 (V : Valuation τ sig (Elt F)) : Valuation τ sig (Elt F) := after t2 (U1 V)
def U3 (V : Valuation τ sig (Elt F)) : Valuation τ sig (Elt F) := after t3 (U2 V)
def U4 (V : Valuation τ sig (Elt F)) : Valuation τ sig (Elt F) := after t4 (U3 V)
def U5 (V : Valuation τ sig (Elt F)) : Valuation τ sig (Elt F) := after t5 (U4 V)
def U6 (V : Valuation τ sig (Elt F)) : Valuation τ sig (Elt F) := after t6 (U5 V)
def U7 (V : Valuation τ sig (Elt F)) : Valuation τ sig (Elt F) := after t7 (U6 V)
def U8 (V : Valuation τ sig (Elt F)) : Valuation τ sig (Elt F) := after t8 (U7 V)
def U9 (V : Valuation τ sig (Elt F)) : Valuation τ sig (Elt F) := after t9 (U8 V)
def U10 (V : Valuation τ sig (Elt F)) : Valuation τ sig (Elt F) := after t10 (U9 V)
def U11 (V : Valuation τ sig (Elt F)) : Valuation τ sig (Elt F) := after t11 (U10 V)
def U12 (V : Valuation τ sig (Elt F)) : Valuation τ sig (Elt F) := after t12 (U11 V)
def U13 (V : Valuation τ sig (Elt F)) : Valuation τ sig (Elt F) := after t13 (U12 V)
def U14 (V : Valuation τ sig (Elt F)) : Valuation τ sig (Elt F) := after t14 (U13 V)
def U15 (V : Valuation τ sig (Elt F)) : Valuation τ sig (Elt F) := after t15 (U14 V)
def U16 (V : Valuation τ sig (Elt F)) : Valuation τ sig (Elt F) := after t16 (U15 V)
def U17 (V : Valuation τ sig (Elt F)) : Valuation τ sig (Elt F) := after t17 (U16 V)
def U18 (V : Valuation τ sig (Elt F)) : Valuation τ sig (Elt F) := after t18 (U17 V)
def U19 (V : Valuation τ sig (Elt F)) : Valuation τ sig (Elt F) := after t19 (U18 V)
def U20 (V : Valuation τ sig (Elt F)) : Valuation τ sig (Elt F) := after t20 (U19 V)

theorem ops_eq (V : Valuation τ sig (Elt F)) : after ops V = after fin (U20 V) := by
  simp only [ops, StableHlo.after_append]
  rfl

theorem U0_keys (V : Valuation τ sig (Elt F)) : Keys (V (main_arg0 : DevRef τ sig)) (U0 V) := by
  have e : ∀ r ∉ keyW, U0 V (Proc.devRef .tc r) = after pre V (Proc.devRef .tc r) :=
    fun r hr => after_of_writes_sub key _ (forall_writes_sub_of_map key_writes) hr
  exact ⟨(e _ (by decide)).trans (pre_k0 V), (e _ (by decide)).trans (pre_k1 V), key_k2 _ (pre_k0 V) (pre_k1 V),
    (e _ (by decide)).trans (pre_lo V), (e _ (by decide)).trans (pre_hi V), (e _ (by decide)).trans (pre_arg V)⟩

theorem U1_keys (V : Valuation τ sig (Elt F)) : Keys (V (main_arg0 : DevRef τ sig)) (U1 V) :=
  (U0_keys V).keep t1_writes (by decide)

theorem U2_keys (V : Valuation τ sig (Elt F)) : Keys (V (main_arg0 : DevRef τ sig)) (U2 V) :=
  (U1_keys V).keep t2_writes (by decide)

theorem U3_keys (V : Valuation τ sig (Elt F)) : Keys (V (main_arg0 : DevRef τ sig)) (U3 V) :=
  (U2_keys V).keep t3_writes (by decide)

theorem U4_keys (V : Valuation τ sig (Elt F)) : Keys (V (main_arg0 : DevRef τ sig)) (U4 V) :=
  (U3_keys V).keep t4_writes (by decide)

theorem U5_keys (V : Valuation τ sig (Elt F)) : Keys (V (main_arg0 : DevRef τ sig)) (U5 V) :=
  (U4_keys V).keep t5_writes (by decide)

theorem U6_keys (V : Valuation τ sig (Elt F)) : Keys (V (main_arg0 : DevRef τ sig)) (U6 V) :=
  (U5_keys V).keep t6_writes (by decide)

theorem U7_keys (V : Valuation τ sig (Elt F)) : Keys (V (main_arg0 : DevRef τ sig)) (U7 V) :=
  (U6_keys V).keep t7_writes (by decide)

theorem U8_keys (V : Valuation τ sig (Elt F)) : Keys (V (main_arg0 : DevRef τ sig)) (U8 V) :=
  (U7_keys V).keep t8_writes (by decide)

theorem U9_keys (V : Valuation τ sig (Elt F)) : Keys (V (main_arg0 : DevRef τ sig)) (U9 V) :=
  (U8_keys V).keep t9_writes (by decide)

theorem U10_keys (V : Valuation τ sig (Elt F)) : Keys (V (main_arg0 : DevRef τ sig)) (U10 V) :=
  (U9_keys V).keep t10_writes (by decide)

theorem U11_keys (V : Valuation τ sig (Elt F)) : Keys (V (main_arg0 : DevRef τ sig)) (U11 V) :=
  (U10_keys V).keep t11_writes (by decide)

theorem U12_keys (V : Valuation τ sig (Elt F)) : Keys (V (main_arg0 : DevRef τ sig)) (U12 V) :=
  (U11_keys V).keep t12_writes (by decide)

theorem U13_keys (V : Valuation τ sig (Elt F)) : Keys (V (main_arg0 : DevRef τ sig)) (U13 V) :=
  (U12_keys V).keep t13_writes (by decide)

theorem U14_keys (V : Valuation τ sig (Elt F)) : Keys (V (main_arg0 : DevRef τ sig)) (U14 V) :=
  (U13_keys V).keep t14_writes (by decide)

theorem U15_keys (V : Valuation τ sig (Elt F)) : Keys (V (main_arg0 : DevRef τ sig)) (U15 V) :=
  (U14_keys V).keep t15_writes (by decide)

theorem U16_keys (V : Valuation τ sig (Elt F)) : Keys (V (main_arg0 : DevRef τ sig)) (U16 V) :=
  (U15_keys V).keep t16_writes (by decide)

theorem U17_keys (V : Valuation τ sig (Elt F)) : Keys (V (main_arg0 : DevRef τ sig)) (U17 V) :=
  (U16_keys V).keep t17_writes (by decide)

theorem U18_keys (V : Valuation τ sig (Elt F)) : Keys (V (main_arg0 : DevRef τ sig)) (U18 V) :=
  (U17_keys V).keep t18_writes (by decide)

theorem U19_keys (V : Valuation τ sig (Elt F)) : Keys (V (main_arg0 : DevRef τ sig)) (U19 V) :=
  (U18_keys V).keep t19_writes (by decide)

theorem U20_keys (V : Valuation τ sig (Elt F)) : Keys (V (main_arg0 : DevRef τ sig)) (U20 V) :=
  (U19_keys V).keep t20_writes (by decide)

theorem U0_st (V : Valuation τ sig (Elt F)) (j : S64x1000000.Idx) :
    (wd (U0 V (main_call0_call0_call0_v6 : DevRef τ sig)) j, wd (U0 V (main_call0_call0_call0_v5 : DevRef τ sig)) j) = s0 (pos (j 0).val (j 1).val) :=
  key_st _ (pre_k0 V) (pre_k1 V) j _ ((pre_c0 V j).trans (pos64_hi j)) ((pre_c1 V j).trans (pos64_lo j))

theorem U1_st (V : Valuation τ sig (Elt F)) (j : S64x1000000.Idx) :
    (wd (U1 V (main_call0_call0_call0_v13 : DevRef τ sig)) j, wd (U1 V (main_call0_call0_call0_v12 : DevRef τ sig)) j) = s1 (pos (j 0).val (j 1).val) :=
  t1_st (U0_keys V) j (U0_st V j)

theorem U2_st (V : Valuation τ sig (Elt F)) (j : S64x1000000.Idx) :
    (wd (U2 V (main_call0_call0_call0_v20 : DevRef τ sig)) j, wd (U2 V (main_call0_call0_call0_v19 : DevRef τ sig)) j) = s2 (pos (j 0).val (j 1).val) :=
  t2_st (U1_keys V) j (U1_st V j)

theorem U3_st (V : Valuation τ sig (Elt F)) (j : S64x1000000.Idx) :
    (wd (U3 V (main_call0_call0_call0_v27 : DevRef τ sig)) j, wd (U3 V (main_call0_call0_call0_v26 : DevRef τ sig)) j) = s3 (pos (j 0).val (j 1).val) :=
  t3_st (U2_keys V) j (U2_st V j)

theorem U4_st (V : Valuation τ sig (Elt F)) (j : S64x1000000.Idx) :
    (wd (U4 V (main_call0_call0_call0_v40 : DevRef τ sig)) j, wd (U4 V (main_call0_call0_call0_v39 : DevRef τ sig)) j) = s4 (pos (j 0).val (j 1).val) :=
  t4_st (U3_keys V) j (U3_st V j)

theorem U5_st (V : Valuation τ sig (Elt F)) (j : S64x1000000.Idx) :
    (wd (U5 V (main_call0_call0_call0_v47 : DevRef τ sig)) j, wd (U5 V (main_call0_call0_call0_v46 : DevRef τ sig)) j) = s5 (pos (j 0).val (j 1).val) :=
  t5_st (U4_keys V) j (U4_st V j)

theorem U6_st (V : Valuation τ sig (Elt F)) (j : S64x1000000.Idx) :
    (wd (U6 V (main_call0_call0_call0_v54 : DevRef τ sig)) j, wd (U6 V (main_call0_call0_call0_v53 : DevRef τ sig)) j) = s6 (pos (j 0).val (j 1).val) :=
  t6_st (U5_keys V) j (U5_st V j)

theorem U7_st (V : Valuation τ sig (Elt F)) (j : S64x1000000.Idx) :
    (wd (U7 V (main_call0_call0_call0_v61 : DevRef τ sig)) j, wd (U7 V (main_call0_call0_call0_v60 : DevRef τ sig)) j) = s7 (pos (j 0).val (j 1).val) :=
  t7_st (U6_keys V) j (U6_st V j)

theorem U8_st (V : Valuation τ sig (Elt F)) (j : S64x1000000.Idx) :
    (wd (U8 V (main_call0_call0_call0_v74 : DevRef τ sig)) j, wd (U8 V (main_call0_call0_call0_v73 : DevRef τ sig)) j) = s8 (pos (j 0).val (j 1).val) :=
  t8_st (U7_keys V) j (U7_st V j)

theorem U9_st (V : Valuation τ sig (Elt F)) (j : S64x1000000.Idx) :
    (wd (U9 V (main_call0_call0_call0_v81 : DevRef τ sig)) j, wd (U9 V (main_call0_call0_call0_v80 : DevRef τ sig)) j) = s9 (pos (j 0).val (j 1).val) :=
  t9_st (U8_keys V) j (U8_st V j)

theorem U10_st (V : Valuation τ sig (Elt F)) (j : S64x1000000.Idx) :
    (wd (U10 V (main_call0_call0_call0_v88 : DevRef τ sig)) j, wd (U10 V (main_call0_call0_call0_v87 : DevRef τ sig)) j) = s10 (pos (j 0).val (j 1).val) :=
  t10_st (U9_keys V) j (U9_st V j)

theorem U11_st (V : Valuation τ sig (Elt F)) (j : S64x1000000.Idx) :
    (wd (U11 V (main_call0_call0_call0_v95 : DevRef τ sig)) j, wd (U11 V (main_call0_call0_call0_v94 : DevRef τ sig)) j) = s11 (pos (j 0).val (j 1).val) :=
  t11_st (U10_keys V) j (U10_st V j)

theorem U12_st (V : Valuation τ sig (Elt F)) (j : S64x1000000.Idx) :
    (wd (U12 V (main_call0_call0_call0_v108 : DevRef τ sig)) j, wd (U12 V (main_call0_call0_call0_v107 : DevRef τ sig)) j) = s12 (pos (j 0).val (j 1).val) :=
  t12_st (U11_keys V) j (U11_st V j)

theorem U13_st (V : Valuation τ sig (Elt F)) (j : S64x1000000.Idx) :
    (wd (U13 V (main_call0_call0_call0_v115 : DevRef τ sig)) j, wd (U13 V (main_call0_call0_call0_v114 : DevRef τ sig)) j) = s13 (pos (j 0).val (j 1).val) :=
  t13_st (U12_keys V) j (U12_st V j)

theorem U14_st (V : Valuation τ sig (Elt F)) (j : S64x1000000.Idx) :
    (wd (U14 V (main_call0_call0_call0_v122 : DevRef τ sig)) j, wd (U14 V (main_call0_call0_call0_v121 : DevRef τ sig)) j) = s14 (pos (j 0).val (j 1).val) :=
  t14_st (U13_keys V) j (U13_st V j)

theorem U15_st (V : Valuation τ sig (Elt F)) (j : S64x1000000.Idx) :
    (wd (U15 V (main_call0_call0_call0_v129 : DevRef τ sig)) j, wd (U15 V (main_call0_call0_call0_v128 : DevRef τ sig)) j) = s15 (pos (j 0).val (j 1).val) :=
  t15_st (U14_keys V) j (U14_st V j)

theorem U16_st (V : Valuation τ sig (Elt F)) (j : S64x1000000.Idx) :
    (wd (U16 V (main_call0_call0_call0_v142 : DevRef τ sig)) j, wd (U16 V (main_call0_call0_call0_v141 : DevRef τ sig)) j) = s16 (pos (j 0).val (j 1).val) :=
  t16_st (U15_keys V) j (U15_st V j)

theorem U17_st (V : Valuation τ sig (Elt F)) (j : S64x1000000.Idx) :
    (wd (U17 V (main_call0_call0_call0_v149 : DevRef τ sig)) j, wd (U17 V (main_call0_call0_call0_v148 : DevRef τ sig)) j) = s17 (pos (j 0).val (j 1).val) :=
  t17_st (U16_keys V) j (U16_st V j)

theorem U18_st (V : Valuation τ sig (Elt F)) (j : S64x1000000.Idx) :
    (wd (U18 V (main_call0_call0_call0_v156 : DevRef τ sig)) j, wd (U18 V (main_call0_call0_call0_v155 : DevRef τ sig)) j) = s18 (pos (j 0).val (j 1).val) :=
  t18_st (U17_keys V) j (U17_st V j)

theorem U19_st (V : Valuation τ sig (Elt F)) (j : S64x1000000.Idx) :
    (wd (U19 V (main_call0_call0_call0_v163 : DevRef τ sig)) j, wd (U19 V (main_call0_call0_call0_v162 : DevRef τ sig)) j) = s19 (pos (j 0).val (j 1).val) :=
  t19_st (U18_keys V) j (U18_st V j)

theorem U20_st (V : Valuation τ sig (Elt F)) (j : S64x1000000.Idx) :
    (wd (U20 V (main_call0_call0_v18_0 : DevRef τ sig)) j, wd (U20 V (main_call0_call0_v18_1 : DevRef τ sig)) j) = s20 (pos (j 0).val (j 1).val) :=
  t20_st (U19_keys V) j (U19_st V j)

/-- The result of the whole line. -/
theorem ops_result (V : Valuation τ sig (Elt F)) :
    after ops V (main_v9 : DevRef τ sig) = argOf (scores (V (main_arg0 : DevRef τ sig))) := by
  rw [ops_eq, fin_arg, fin_noise (U20_keys V) (fun j => bits (pos (j 0).val (j 1).val))]
  · rfl
  · intro j
    have h := U20_st V j
    rw [bits, ← h]

theorem ops_arg (V : Valuation τ sig (Elt F)) :
    after ops V (main_arg0 : DevRef τ sig) = V (main_arg0 : DevRef τ sig) := by
  rw [ops_eq]
  exact (after_of_writes_sub fin _ (forall_writes_sub_of_map fin_writes) (by decide)).trans (U20_keys V).arg

end Cert.ReferenceIdeal.Pf
-- ==== Proof.NoiseEq.lean ====
/-
  The noise call's block, one element at a time: each pair of payload vectors is the pair of words after a round, so
  an element of the block is the noise at the random bits of its position.
-/
module

public import proofs.«01_k».proof.Proof.NoiseIdeal
public import proofs.«01_k».proof.Proof.Words
public import Idealize.ShloMosaic.PureOps.Ideal.Laws

@[expose] public section

set_option maxRecDepth 16384

noncomputable section

namespace Cert.KernelIdeal.Pf

open Cert.KernelIdeal Cert.KernelIdeal.Gen Cert.Words
open Idealize.ShloMosaic

local notation "IV" => IVec S64x25600 32

/-- An entry of a vector shifted right. -/
theorem shr_at (r : W) (hr : r.toNat < 32) (y : IV) (j : S64x25600.Idx) : shrui y (broadcast S64x25600 r) j = y j >>> r := if_pos hr

/-- An entry of a rotated vector. -/
theorem rot_at (l r : W) (hl : l.toNat < 32) (hr : r.toNat < 32) (y : IV) (j : S64x25600.Idx) :
    ori (shli y (broadcast S64x25600 l)) (shrui y (broadcast S64x25600 r)) j = rot l r (y j) := by
  have h1 : shli y (broadcast S64x25600 l) j = y j <<< l := if_pos hl
  have h2 : shrui y (broadcast S64x25600 r) j = y j >>> r := if_pos hr
  show shli y (broadcast S64x25600 l) j ||| shrui y (broadcast S64x25600 r) j = _
  rw [h1, h2]; rfl

/-- A round of vectors, at an entry. -/
theorem q_at (l r : W) (hl : l.toNat < 32) (hr : r.toNat < 32) {x y : IV} {j : S64x25600.Idx} {s : W × W}
    (h : x j = s.1 ∧ y j = s.2) {x' y' : IV}
    (hy : y' = xori x (ori (shli y (broadcast S64x25600 l)) (shrui y (broadcast S64x25600 r)))) (hx : x' = addi x y') :
    x' j = (q l r s).1 ∧ y' j = (q l r s).2 := by
  have e : y' j = (q l r s).2 := by
    rw [hy]
    show x j ^^^ ori (shli y (broadcast S64x25600 l)) (shrui y (broadcast S64x25600 r)) j = _
    rw [rot_at l r hl hr, h.1, h.2]; rfl
  refine ⟨?_, e⟩
  rw [hx]
  show x j + y' j = _
  rw [e, h.1]; rfl

/-- A round of vectors and a key injection, at an entry. -/
theorem qk_at (l r k k' n : W) (hl : l.toNat < 32) (hr : r.toNat < 32) {x y : IV} {j : S64x25600.Idx} {s : W × W}
    (h : x j = s.1 ∧ y j = s.2) {x' y' : IV}
    (hy : y' = addi (addi (xori x (ori (shli y (broadcast S64x25600 l)) (shrui y (broadcast S64x25600 r))))
      (broadcast S64x25600 k')) (broadcast S64x25600 n))
    (hx : x' = addi (addi x (broadcast S64x25600 k)) y') :
    x' j = (qk l r k k' n s).1 ∧ y' j = (qk l r k k' n s).2 := by
  have e : y' j = (qk l r k k' n s).2 := by
    rw [hy]
    show (x j ^^^ ori (shli y (broadcast S64x25600 l)) (shrui y (broadcast S64x25600 r)) j) + k' + n = _
    rw [rot_at l r hl hr, h.1, h.2]; rfl
  refine ⟨?_, e⟩
  rw [hx]
  show x j + k + y' j = _
  rw [e, h.1]; rfl

/-- The pair the rounds begin with. -/
theorem st0 (i : grid0.Coords) (j : S64x25600.Idx) :
    k0_pay3 i j = (s0 (pos (j 0).val ((j 1).val + 25600 * (i 0).val))).1
      ∧ k0_pay2 i j = (s0 (pos (j 0).val ((j 1).val + 25600 * (i 0).val))).2 := by
  have e : k0_pay2 i j = (s0 (pos (j 0).val ((j 1).val + 25600 * (i 0).val))).2 := by
    unfold k0_pay2
    show addi (addi (muli (iota .tc S64x25600 32 [0] iota_S64x25600_d0_w32) _) (addi (iota .tc S64x25600 32 [1] iota_S64x25600_d1_w32) _)) _ j = _
    unfold addi muli
    rw [iota_single_apply, iota_single_apply]
    show BitVec.ofNat 32 (j 0).val * BitVec.ofNat 32 1000000 + (BitVec.ofNat 32 (j 1).val + BitVec.ofNat 32 (i 0).val * BitVec.ofNat 32 25600) + 42#32
      = BitVec.ofNat 32 ((j 0).val * 1000000 + ((j 1).val + 25600 * (i 0).val)) + 42#32
    rw [← BitVec.ofNat_mul, ← BitVec.ofNat_mul, ← BitVec.ofNat_add, ← BitVec.ofNat_add, Nat.mul_comm (i 0).val]
  refine ⟨?_, e⟩
  show 0#32 + 0#32 + k0_pay2 i j = _
  rw [e]; rfl

/-- The block's two middle vectors and the two vectors after the fifteenth round. -/
abbrev nA (i : grid0.Coords) : IV := k0_pay23 (k0_pay10 i) (k0_pay11 i) k0_pay12
abbrev nB (i : grid0.Coords) : IV := k0_pay24 (k0_pay10 i) (k0_pay11 i) k0_pay12
abbrev nC (i : grid0.Coords) : IV := k0_pay34 (nA i) (nB i) 15#32
abbrev nD' (i : grid0.Coords) : IV := k0_pay35 (nA i) (nB i) 15#32

theorem st1 (i : grid0.Coords) (j : S64x25600.Idx) :
    k0_pay5 i j = (s1 (pos (j 0).val ((j 1).val + 25600 * (i 0).val))).1
      ∧ k0_pay4 i j = (s1 (pos (j 0).val ((j 1).val + 25600 * (i 0).val))).2 :=
  q_at 13#32 19#32 (by decide) (by decide) (st0 i j) rfl rfl

theorem st2 (i : grid0.Coords) (j : S64x25600.Idx) :
    k0_pay7 i j = (s2 (pos (j 0).val ((j 1).val + 25600 * (i 0).val))).1
      ∧ k0_pay6 i j = (s2 (pos (j 0).val ((j 1).val + 25600 * (i 0).val))).2 :=
  q_at 15#32 17#32 (by decide) (by decide) (st1 i j) rfl rfl

theorem st3 (i : grid0.Coords) (j : S64x25600.Idx) :
    k0_pay9 i j = (s3 (pos (j 0).val ((j 1).val + 25600 * (i 0).val))).1
      ∧ k0_pay8 i j = (s3 (pos (j 0).val ((j 1).val + 25600 * (i 0).val))).2 :=
  q_at 26#32 6#32 (by decide) (by decide) (st2 i j) rfl rfl

theorem st4 (i : grid0.Coords) (j : S64x25600.Idx) :
    k0_pay14 (k0_pay10 i) (k0_pay11 i) k0_pay12 j = (s4 (pos (j 0).val ((j 1).val + 25600 * (i 0).val))).1
      ∧ k0_pay13 (k0_pay10 i) k0_pay12 j = (s4 (pos (j 0).val ((j 1).val + 25600 * (i 0).val))).2 :=
  qk_at 6#32 26#32 42#32 ks 1#32 (by decide) (by decide) (st3 i j) rfl rfl

theorem st5 (i : grid0.Coords) (j : S64x25600.Idx) :
    k0_pay16 (k0_pay10 i) (k0_pay11 i) k0_pay12 j = (s5 (pos (j 0).val ((j 1).val + 25600 * (i 0).val))).1
      ∧ k0_pay15 (k0_pay10 i) (k0_pay11 i) k0_pay12 j = (s5 (pos (j 0).val ((j 1).val + 25600 * (i 0).val))).2 :=
  q_at 17#32 15#32 (by decide) (by decide) (st4 i j) rfl rfl

theorem st6 (i : grid0.Coords) (j : S64x25600.Idx) :
    k0_pay18 (k0_pay10 i) (k0_pay11 i) k0_pay12 j = (s6 (pos (j 0).val ((j 1).val + 25600 * (i 0).val))).1
      ∧ k0_pay17 (k0_pay10 i) (k0_pay11 i) k0_pay12 j = (s6 (pos (j 0).val ((j 1).val + 25600 * (i 0).val))).2 :=
  q_at 29#32 3#32 (by decide) (by decide) (st5 i j) rfl rfl

theorem st7 (i : grid0.Coords) (j : S64x25600.Idx) :
    k0_pay20 (k0_pay10 i) (k0_pay11 i) k0_pay12 j = (s7 (pos (j 0).val ((j 1).val + 25600 * (i 0).val))).1
      ∧ k0_pay19 (k0_pay10 i) (k0_pay11 i) k0_pay12 j = (s7 (pos (j 0).val ((j 1).val + 25600 * (i 0).val))).2 :=
  q_at 16#32 16#32 (by decide) (by decide) (st6 i j) rfl rfl

theorem st8 (i : grid0.Coords) (j : S64x25600.Idx) :
    k0_pay22 (k0_pay10 i) (k0_pay11 i) k0_pay12 j = (s8 (pos (j 0).val ((j 1).val + 25600 * (i 0).val))).1
      ∧ k0_pay21 (k0_pay10 i) (k0_pay11 i) k0_pay12 j = (s8 (pos (j 0).val ((j 1).val + 25600 * (i 0).val))).2 :=
  qk_at 24#32 8#32 ks 0#32 2#32 (by decide) (by decide) (st7 i j) rfl rfl

theorem st9 (i : grid0.Coords) (j : S64x25600.Idx) :
    k0_pay24 (k0_pay10 i) (k0_pay11 i) k0_pay12 j = (s9 (pos (j 0).val ((j 1).val + 25600 * (i 0).val))).1
      ∧ k0_pay23 (k0_pay10 i) (k0_pay11 i) k0_pay12 j = (s9 (pos (j 0).val ((j 1).val + 25600 * (i 0).val))).2 :=
  q_at 13#32 19#32 (by decide) (by decide) (st8 i j) rfl rfl

theorem st10 (i : grid0.Coords) (j : S64x25600.Idx) :
    k0_pay26 (nA i) (nB i) 15#32 j = (s10 (pos (j 0).val ((j 1).val + 25600 * (i 0).val))).1
      ∧ k0_pay25 (nA i) (nB i) 15#32 j = (s10 (pos (j 0).val ((j 1).val + 25600 * (i 0).val))).2 :=
  q_at 15#32 17#32 (by decide) (by decide) (st9 i j) rfl rfl

theorem st11 (i : grid0.Coords) (j : S64x25600.Idx) :
    k0_pay28 (nA i) (nB i) 15#32 j = (s11 (pos (j 0).val ((j 1).val + 25600 * (i 0).val))).1
      ∧ k0_pay27 (nA i) (nB i) 15#32 j = (s11 (pos (j 0).val ((j 1).val + 25600 * (i 0).val))).2 :=
  q_at 26#32 6#32 (by decide) (by decide) (st10 i j) rfl rfl

theorem st12 (i : grid0.Coords) (j : S64x25600.Idx) :
    k0_pay30 (nA i) (nB i) 15#32 j = (s12 (pos (j 0).val ((j 1).val + 25600 * (i 0).val))).1
      ∧ k0_pay29 (nA i) (nB i) 15#32 j = (s12 (pos (j 0).val ((j 1).val + 25600 * (i 0).val))).2 :=
  qk_at 6#32 26#32 0#32 42#32 3#32 (by decide) (by decide) (st11 i j) rfl rfl

theorem st13 (i : grid0.Coords) (j : S64x25600.Idx) :
    k0_pay32 (nA i) (nB i) 15#32 j = (s13 (pos (j 0).val ((j 1).val + 25600 * (i 0).val))).1
      ∧ k0_pay31 (nA i) (nB i) 15#32 j = (s13 (pos (j 0).val ((j 1).val + 25600 * (i 0).val))).2 :=
  q_at 17#32 15#32 (by decide) (by decide) (st12 i j) rfl rfl

theorem st14 (i : grid0.Coords) (j : S64x25600.Idx) :
    k0_pay34 (nA i) (nB i) 15#32 j = (s14 (pos (j 0).val ((j 1).val + 25600 * (i 0).val))).1
      ∧ k0_pay33 (nA i) (nB i) 15#32 j = (s14 (pos (j 0).val ((j 1).val + 25600 * (i 0).val))).2 :=
  q_at 29#32 3#32 (by decide) (by decide) (st13 i j) rfl rfl

theorem st15 (i : grid0.Coords) (j : S64x25600.Idx) :
    k0_pay37 (nC i) (nD' i) j = (s15 (pos (j 0).val ((j 1).val + 25600 * (i 0).val))).1
      ∧ k0_pay36 (nC i) (nD' i) j = (s15 (pos (j 0).val ((j 1).val + 25600 * (i 0).val))).2 :=
  q_at 16#32 16#32 (by decide) (by decide) (st14 i j) rfl rfl

theorem st16 (i : grid0.Coords) (j : S64x25600.Idx) :
    k0_pay39 (nC i) (nD' i) j = (s16 (pos (j 0).val ((j 1).val + 25600 * (i 0).val))).1
      ∧ k0_pay38 (nC i) (nD' i) j = (s16 (pos (j 0).val ((j 1).val + 25600 * (i 0).val))).2 :=
  qk_at 24#32 8#32 42#32 ks 4#32 (by decide) (by decide) (st15 i j) rfl rfl

theorem st17 (i : grid0.Coords) (j : S64x25600.Idx) :
    k0_pay41 (nC i) (nD' i) j = (s17 (pos (j 0).val ((j 1).val + 25600 * (i 0).val))).1
      ∧ k0_pay40 (nC i) (nD' i) j = (s17 (pos (j 0).val ((j 1).val + 25600 * (i 0).val))).2 :=
  q_at 13#32 19#32 (by decide) (by decide) (st16 i j) rfl rfl

theorem st18 (i : grid0.Coords) (j : S64x25600.Idx) :
    k0_pay43 (nC i) (nD' i) j = (s18 (pos (j 0).val ((j 1).val + 25600 * (i 0).val))).1
      ∧ k0_pay42 (nC i) (nD' i) j = (s18 (pos (j 0).val ((j 1).val + 25600 * (i 0).val))).2 :=
  q_at 15#32 17#32 (by decide) (by decide) (st17 i j) rfl rfl

theorem st19 (i : grid0.Coords) (j : S64x25600.Idx) :
    k0_pay45 (nC i) (nD' i) j = (s19 (pos (j 0).val ((j 1).val + 25600 * (i 0).val))).1
      ∧ k0_pay44 (nC i) (nD' i) j = (s19 (pos (j 0).val ((j 1).val + 25600 * (i 0).val))).2 :=
  q_at 26#32 6#32 (by decide) (by decide) (st18 i j) rfl rfl

/-- The last vector of the rounds and the last sum. -/
theorem stE (i : grid0.Coords) (j : S64x25600.Idx) :
    k0_pay47 (nC i) (nD' i) j ^^^ (k0_pay46 (nC i) (nD' i) j + 0#32 + 5#32) = bits (pos (j 0).val ((j 1).val + 25600 * (i 0).val)) := by
  have h := st19 i j
  have e6 : k0_pay46 (nC i) (nD' i) j = k0_pay45 (nC i) (nD' i) j ^^^ rot 6#32 26#32 (k0_pay44 (nC i) (nD' i) j) := by
    rw [← rot_at 6#32 26#32 (by decide) (by decide)]; rfl
  have e7 : k0_pay47 (nC i) (nD' i) j = k0_pay45 (nC i) (nD' i) j + ks := rfl
  rw [e6, e7, h.1, h.2]
  rfl

/-- The final payload at an entry. -/
theorem pay1_at (a b z : IV) (j : S64x25600.Idx) (hz : z j = 0#32) :
    k0_pay1 (F := Ideal) a b z j = gum (b j ^^^ (a j + 0#32 + 5#32)) := by
  unfold k0_pay1 gum
  have hw : ∀ x : IV, shrui x (broadcast S64x25600 9#32) j = x j >>> (9#32 : W) := fun x => shr_at 9#32 (by decide) x j
  show (Ideal.ofBits .f32 0x00000000#32 - Ideal.log (Ideal.ofBits .f32 0x00000000#32 - Ideal.log (max (Ideal.ofBits .f32 0x00800000#32)
    ((Ideal.ofBits .f32 (shrui (xori b (addi (addi a z) (broadcast S64x25600 5#32))) (broadcast S64x25600 9#32) j ||| 1065353216#32) - Ideal.ofBits .f32 0x3F800000#32)
        * (Ideal.ofBits .f32 0x3F800000#32 - Ideal.ofBits .f32 0x00800000#32)
      + Ideal.ofBits .f32 0x00800000#32))) : EReal) = _
  rw [hw]
  have hx : xori b (addi (addi a z) (broadcast S64x25600 5#32)) j = b j ^^^ (a j + 0#32 + 5#32) := by
    rw [← hz]; rfl
  rw [hx, Ideal.ofBits_zero_f32, zero_sub, zero_sub]

/-- An element of a block of noise. -/
theorem nzBlk_apply (i : grid0.Coords) (j : S64x25600.Idx) :
    nzBlk (F := Ideal) i j = gum (bits (pos (j 0).val ((j 1).val + 25600 * (i 0).val))) := by
  show k0_pay1 (F := Ideal) (k0_pay46 (nC i) (nD' i)) (k0_pay47 (nC i) (nD' i)) k0_pay48 j = _
  rw [pay1_at _ _ _ _ rfl, stE]

/-- An element of the noise array. -/
theorem nzArr_apply (j : S64x1000000.Idx) : nzArr (F := Ideal) j = gum (bits (pos (j 0).val (j 1).val)) := by
  unfold nzArr
  rw [nzBlk_apply]
  have h : ((grid0.coords (colPt (j 1).val (j 1).isLt)) 0 : ℕ) = (j 1).val / 25600 := coords0 _
  rw [h]
  show gum (bits (pos (j 0).val ((j 1).val % 25600 + 25600 * ((j 1).val / 25600)))) = _
  rw [Nat.mod_add_div]

end Cert.KernelIdeal.Pf

end
-- ==== Proof.ArgOrd.lean ====
/-
  The argmax of a row, as an order statement: the greatest value of the first columns and the least column that has it.
  Such a pair is unique; it extends by a block of columns, and a fold that keeps the greater value (and on equal values
  the smaller column) ends at it.
-/
module

public import Idealize.ShloMosaic.PureOps.Ideal.Laws

@[expose] public section

noncomputable section

namespace Cert.Arg

open Idealize.ShloMosaic

/-- `M` is the greatest of `s` on `[a, b)` and `k` the least column there that has it. -/
def On (s : ℕ → EReal) (a b : ℕ) (M : EReal) (k : ℕ) : Prop :=
  (∀ c, a ≤ c → c < b → s c ≤ M) ∧ a ≤ k ∧ k < b ∧ s k = M ∧ ∀ c, a ≤ c → c < k → s c < M

theorem On.unique {s : ℕ → EReal} {a b : ℕ} {M M' : EReal} {k k' : ℕ} (h : On s a b M k) (h' : On s a b M' k') : k = k' := by
  obtain ⟨h1, h2, h3, h4, h5⟩ := h
  obtain ⟨g1, g2, g3, g4, g5⟩ := h'
  have e : M = M' := le_antisymm (h4 ▸ g1 k h2 h3) (g4 ▸ h1 k' g2 g3)
  subst e
  rcases lt_trichotomy k k' with hlt | he | hgt
  · exact absurd h4 (g5 k h2 hlt).ne
  · exact he
  · exact absurd g4 (h5 k' g2 hgt).ne

/-- A later block with a greater value takes over. -/
theorem On.later {s : ℕ → EReal} {a b d : ℕ} {M B : EReal} {k l : ℕ} (h : On s a b M k) (g : On s b d B l) (hlt : M < B) :
    On s a d B l := by
  obtain ⟨h1, h2, h3, h4, h5⟩ := h
  obtain ⟨g1, g2, g3, g4, g5⟩ := g
  refine ⟨fun c hc hd => ?_, by omega, g3, g4, fun c hc hd => ?_⟩
  · by_cases hb : c < b
    · exact (h1 c hc hb).trans hlt.le
    · exact g1 c (by omega) hd
  · by_cases hb : c < b
    · exact (h1 c hc hb).trans_lt hlt
    · exact g5 c (by omega) hd

/-- A later block with no greater value does not. -/
theorem On.earlier {s : ℕ → EReal} {a b d : ℕ} {M B : EReal} {k l : ℕ} (h : On s a b M k) (g : On s b d B l) (hle : ¬M < B) :
    On s a d M k := by
  obtain ⟨h1, h2, h3, h4, h5⟩ := h
  obtain ⟨g1, g2, g3, g4, g5⟩ := g
  refine ⟨fun c hc hd => ?_, h2, by omega, h4, h5⟩
  by_cases hb : c < b
  · exact h1 c hc hb
  · exact (g1 c (by omega) hd).trans (not_lt.mp hle)

/-- Columns at minus infinity change nothing. -/
theorem On.pad {s : ℕ → EReal} {a b d : ℕ} {M : EReal} {k : ℕ} (h : On s a b M k) (hbd : b ≤ d) (hs : ∀ c, b ≤ c → s c = ⊥) :
    On s a d M k := by
  obtain ⟨h1, h2, h3, h4, h5⟩ := h
  refine ⟨fun c hc hd => ?_, h2, by omega, h4, h5⟩
  by_cases hb : c < b
  · exact h1 c hc hb
  · rw [hs c (by omega)]; exact bot_le

/-! ## Words -/

theorem toInt_small {n : ℕ} (h : n < 2 ^ 31) : (BitVec.ofNat 32 n).toInt = n := by
  have hm : n % 4294967296 = n := Nat.mod_eq_of_lt (by omega)
  rw [BitVec.toInt_eq_toNat_of_lt (by rw [BitVec.toNat_ofNat]; omega), BitVec.toNat_ofNat]
  exact congrArg Nat.cast hm

theorem slt_small {m n : ℕ} (hm : m < 2 ^ 31) (hn : n < 2 ^ 31) :
    (BitVec.ofNat 32 m).slt (BitVec.ofNat 32 n) = decide (m < n) := by
  rw [BitVec.slt, toInt_small hm, toInt_small hn]
  exact decide_eq_decide.mpr Nat.cast_lt

/-- The least of finitely many words (as signed words, from an initial one): a lower bound, and one of them. -/
theorem fold_minsi {ι : Type} [DecidableEq ι] (S : Finset ι) (b : BitVec 32) (f : ι → BitVec 32) :
    (∀ i ∈ S, (S.fold (IKind.op .minsi) b f).toInt ≤ (f i).toInt)
      ∧ (S.fold (IKind.op .minsi) b f = b ∨ ∃ i ∈ S, S.fold (IKind.op .minsi) b f = f i) := by
  induction S using Finset.induction_on with
  | empty => exact ⟨fun i hi => absurd hi (Finset.notMem_empty i), .inl rfl⟩
  | insert x S hx ih =>
    rw [Finset.fold_insert hx]
    obtain ⟨ih1, ih2⟩ := ih
    generalize S.fold (IKind.op .minsi) b f = R at ih1 ih2
    have e : IKind.op .minsi (f x) R = if (f x).slt R then f x else R := rfl
    rw [e]
    by_cases h : (f x).slt R = true
    · rw [if_pos h]
      have h' : (f x).toInt < R.toInt := by simpa [BitVec.slt] using h
      refine ⟨fun i hi => ?_, .inr ⟨x, Finset.mem_insert_self x S, rfl⟩⟩
      rcases Finset.mem_insert.mp hi with rfl | hi
      · exact le_refl _
      · exact h'.le.trans (ih1 i hi)
    · rw [if_neg h]
      have h' : R.toInt ≤ (f x).toInt := by simpa [BitVec.slt] using h
      refine ⟨fun i hi => ?_, ?_⟩
      · rcases Finset.mem_insert.mp hi with rfl | hi
        · exact h'
        · exact ih1 i hi
      · rcases ih2 with h2 | ⟨i, hi, h2⟩
        · exact .inl h2
        · exact .inr ⟨i, Finset.mem_insert_of_mem hi, h2⟩

/-! ## The fold that keeps the greater value -/

/-- One step: the greater value, and on equal values the smaller column. -/
def keep (a b : EReal × BitVec 32) : EReal × BitVec 32 :=
  if b.1 < a.1 ∨ (a.1 = b.1 ∧ a.2.slt b.2 = true) then a else b

/-- What the fold has after the columns `p` names. -/
def Seen (s : ℕ → EReal) (p : ℕ → Prop) (r : EReal × BitVec 32) : Prop :=
  ∃ k, k < 1000000 ∧ r.2 = BitVec.ofNat 32 k ∧ (∀ c, p c → s c < r.1 ∨ (s c = r.1 ∧ k ≤ c))
    ∧ ((r.1 = ⊥ ∧ k = 0) ∨ s k = r.1)

theorem Seen.step {s : ℕ → EReal} {p : ℕ → Prop} {r : EReal × BitVec 32} (h : Seen s p r) (c : ℕ) (hc : c < 1000000) :
    Seen s (fun d => p d ∨ d = c) (keep r (s c, BitVec.ofNat 32 c)) := by
  obtain ⟨k, hk, h2, h3, h4⟩ := h
  unfold keep
  by_cases hg : s c < r.1 ∨ (r.1 = s c ∧ r.2.slt (BitVec.ofNat 32 c) = true)
  · rw [if_pos hg]
    refine ⟨k, hk, h2, fun d hd => ?_, h4⟩
    rcases hd with hd | rfl
    · exact h3 d hd
    · rcases hg with hg | ⟨he, hs⟩
      · exact .inl hg
      · rw [h2, slt_small (by omega) (by omega)] at hs
        exact .inr ⟨he.symm, (of_decide_eq_true hs).le⟩
  · rw [if_neg hg]
    rw [not_or, not_lt] at hg
    refine ⟨c, hc, rfl, fun d hd => ?_, .inr rfl⟩
    rcases hd with hd | rfl
    · rcases h3 d hd with hl | ⟨he, hkd⟩
      · exact .inl (hl.trans_le hg.1)
      · rcases hg.1.lt_or_eq with hl | hr
        · exact .inl (he ▸ hl)
        · refine .inr ⟨he.trans hr, ?_⟩
          have hn : ¬k < c := fun hkc => hg.2 ⟨hr, by
            rw [h2, slt_small (by omega) (by omega)]; exact decide_eq_true hkc⟩
          omega
    · exact .inr ⟨rfl, le_refl _⟩

theorem Seen.mono {s : ℕ → EReal} {p q : ℕ → Prop} {r : EReal × BitVec 32} (h : Seen s p r) (hq : ∀ c, q c → p c) : Seen s q r := by
  obtain ⟨k, hk, h2, h3, h4⟩ := h
  exact ⟨k, hk, h2, fun c hc => h3 c (hq c hc), h4⟩

/-- The fold over a list whose entries name columns has seen every one of them. -/
theorem Seen.foldl {ι : Type} {s : ℕ → EReal} (v : ι → EReal × BitVec 32) (col : ι → ℕ) :
    ∀ (l : List ι), (∀ n ∈ l, col n < 1000000 ∧ v n = (s (col n), BitVec.ofNat 32 (col n))) →
      ∀ {p : ℕ → Prop} {r : EReal × BitVec 32}, Seen s p r →
        Seen s (fun c => p c ∨ ∃ n ∈ l, col n = c) (l.foldl (fun r n => keep r (v n)) r)
  | [], _, p, r, h => h.mono fun c hc => hc.elim id fun ⟨n, hn, _⟩ => absurd hn (by simp)
  | x :: l, hv, p, r, h => by
    have hx := hv x (by simp)
    have h1 := h.step (col x) hx.1
    rw [← hx.2] at h1
    refine (Seen.foldl v col l (fun n hn => hv n (by simp [hn])) h1).mono fun c hc => ?_
    rcases hc with hc | ⟨n, hn, hc⟩
    · exact .inl (.inl hc)
    · rcases List.mem_cons.mp hn with rfl | hn
      · exact .inl (.inr hc.symm)
      · exact .inr ⟨n, hn, hc⟩

theorem Seen.init (s : ℕ → EReal) : Seen s (fun _ => False) (⊥, 0#32) :=
  ⟨0, by decide, rfl, fun c hc => hc.elim, .inl ⟨rfl, rfl⟩⟩

/-- Once every column is seen the pair is the row's argmax. -/
theorem Seen.on {s : ℕ → EReal} {p : ℕ → Prop} {r : EReal × BitVec 32} (h : Seen s p r) (hp : ∀ c, c < 1000000 → p c) :
    ∃ k, r.2 = BitVec.ofNat 32 k ∧ On s 0 1000000 r.1 k := by
  obtain ⟨k, hk, h2, h3, h4⟩ := h
  refine ⟨k, h2, fun c _ hc => ?_, Nat.zero_le _, hk, ?_, fun c _ hc => ?_⟩
  · rcases h3 c (hp c hc) with h | ⟨h, _⟩
    · exact h.le
    · exact h.le
  · rcases h4 with ⟨hb, rfl⟩ | h4
    · rcases h3 0 (hp 0 (by decide)) with h | ⟨h, _⟩
      · rw [hb] at h; exact absurd h not_lt_bot
      · exact h
    · exact h4
  · rcases h3 c (hp c (by omega)) with h | ⟨_, h⟩
    · exact h
    · omega

/-- A host reduction that keeps the greater value, at an index whose fiber names every column. -/
theorem reduce2_keep {s t u : Shape} {axes : List (Fin s.rank)} (x : s.Idx → EReal) (y : s.Idx → BitVec 32)
    (ix : u.Idx → EReal) (iy : u.Idx → BitVec 32) (h : s.ReducesTo axes t) (hu : 0 < u.numel) (j : t.Idx)
    (S : ℕ → EReal) (col : s.Idx → ℕ) (hx : ix (Shape.Idx.first hu) = ⊥) (hy : iy (Shape.Idx.first hu) = 0#32)
    (hin : ∀ i, h.drop i = j → col i < 1000000 ∧ x i = S (col i) ∧ y i = BitVec.ofNat 32 (col i))
    (hall : ∀ c, c < 1000000 → ∃ i, h.drop i = j ∧ col i = c)
    (P : t.Idx → EReal × BitVec 32) (hP : P = Host.reduce2 keep x y ix iy h hu) :
    ∃ M k, (P j).2 = BitVec.ofNat 32 k ∧ On S 0 1000000 M k := by
  rw [hP]
  unfold Host.reduce2
  rw [hx, hy]
  have hl := Seen.foldl (s := S) (v := fun n => (x (s.rowMajor.symm n), y (s.rowMajor.symm n)))
    (col := fun n => col (s.rowMajor.symm n))
    ((List.finRange s.numel).filter fun n => h.drop (s.rowMajor.symm n) = j)
    (fun n hn => by
      obtain ⟨h1, h2, h3⟩ := hin _ (of_decide_eq_true (List.mem_filter.mp hn).2)
      exact ⟨h1, Prod.ext h2 h3⟩)
    (Seen.init S)
  obtain ⟨k, hk, hon⟩ := hl.on (fun c hc => by
    obtain ⟨i, hi, hci⟩ := hall c hc
    refine .inr ⟨s.rowMajor i, List.mem_filter.mpr ⟨List.mem_finRange _, decide_eq_true ?_⟩, ?_⟩
    · rw [Equiv.symm_apply_apply]; exact hi
    · rw [Equiv.symm_apply_apply]; exact hci)
  exact ⟨_, k, hk, hon⟩

/-- A block's greatest value and the least word among the columns that have it (the others at the sentinel): the
    argmax of the block's columns. -/
theorem block_on {ι : Type} [DecidableEq ι] (S : Finset ι) (z : ι → EReal) (w : ι → BitVec 32) (col : ι → ℕ) (s : ℕ → EReal)
    (a b : ℕ) (hab : a < b) (hb : b < 2000000) (B : EReal) (hB : B = S.fold max ⊥ z)
    (R : BitVec 32) (hR : R = S.fold (IKind.op .minsi) 2147483647#32 w)
    (hz : ∀ i ∈ S, a ≤ col i ∧ col i < b ∧ z i = s (col i))
    (hw : ∀ i ∈ S, (z i = B → w i = BitVec.ofNat 32 (col i)) ∧ (z i ≠ B → w i = 1000000#32))
    (hall : ∀ c, a ≤ c → c < b → ∃ i ∈ S, col i = c) (hpast : ∀ c, 1000000 ≤ c → s c = ⊥) :
    ∃ l, R = BitVec.ofNat 32 l ∧ On s a b B l := by
  classical
  have hle : ∀ i ∈ S, z i ≤ B := ((Finset.fold_max_le B).mp hB.ge).2
  have hlec : ∀ c, a ≤ c → c < b → s c ≤ B := fun c ha hc => by
    obtain ⟨i, hi, e⟩ := hall c ha hc
    rw [← e, ← (hz i hi).2.2]; exact hle i hi
  have hex : ∃ c, a ≤ c ∧ c < b ∧ s c = B := by
    rcases (Finset.le_fold_max B).mp hB.le with h | ⟨i, hi, h⟩
    · exact ⟨a, le_refl a, hab, le_antisymm (hlec a (le_refl a) hab) (h.trans bot_le)⟩
    · obtain ⟨h1, h2, h3⟩ := hz i hi
      exact ⟨col i, h1, h2, h3 ▸ le_antisymm (hle i hi) h⟩
  obtain ⟨l1, l2, l3⟩ := Nat.find_spec hex
  have hmin : ∀ c, c < Nat.find hex → ¬(a ≤ c ∧ c < b ∧ s c = B) := fun c hc => Nat.find_min hex hc
  generalize Nat.find hex = l at l1 l2 l3 hmin
  refine ⟨l, ?_, hlec, l1, l2, l3, fun c hc hl => lt_of_le_of_ne (hlec c hc (by omega)) fun e => hmin c hl ⟨hc, by omega, e⟩⟩
  obtain ⟨i, hi, e⟩ := hall l l1 l2
  have hwi : w i = BitVec.ofNat 32 l := e ▸ (hw i hi).1 (by rw [(hz i hi).2.2, e, l3])
  obtain ⟨f1, f2⟩ := fold_minsi S 2147483647#32 w
  rw [← hR] at f1 f2
  have hRl := f1 i hi
  rw [hwi, toInt_small (by omega)] at hRl
  rcases f2 with h | ⟨i', hi', h⟩
  · rw [h, show (2147483647#32 : BitVec 32).toInt = 2147483647 by decide] at hRl; omega
  · obtain ⟨g1, g2, g3⟩ := hz i' hi'
    by_cases hzB : z i' = B
    · have hwi' := (hw i' hi').1 hzB
      rw [h, hwi', toInt_small (by omega)] at hRl
      have : ¬col i' < l := fun hc => hmin _ hc ⟨g1, g2, g3 ▸ hzB⟩
      rw [h, hwi', show col i' = l by omega]
    · have hwi' := (hw i' hi').2 hzB
      rw [h, hwi', show (1000000#32 : BitVec 32).toInt = 1000000 by decide] at hRl
      have hbot : B = ⊥ := l3.symm.trans (hpast l (by omega))
      exact absurd (le_antisymm (hle i' hi') (hbot ▸ bot_le)) hzB

/-! ## A row of the scores -/

/-- Row `r`, column `c` of the whole array. -/
def at2 (r : Fin 64) (c : ℕ) (h : c < 1000000) : (⟨2, ![64, 1000000]⟩ : Shape).Idx :=
  fun | 0 => r | 1 => (⟨c, h⟩ : Fin 1000000)

/-- A row of an array, at minus infinity past its end. -/
def row (f : (⟨2, ![64, 1000000]⟩ : Shape).Idx → EReal) (r : Fin 64) (c : ℕ) : EReal :=
  if h : c < 1000000 then f (at2 r c h) else ⊥

theorem row_past (f : (⟨2, ![64, 1000000]⟩ : Shape).Idx → EReal) (r : Fin 64) (c : ℕ) (h : 1000000 ≤ c) : row f r c = ⊥ :=
  dif_neg (by omega)

end Cert.Arg

end
-- ==== Proof.ArgKer.lean ====
/-
  The argmax call's running pair, at exact arithmetic: after each block it is the greatest score so far and its least
  column, so after the last block it is the row's argmax.
-/
module

public import proofs.«01_k».proof.Proof.RunIdeal
public import proofs.«01_k».proof.Proof.NoiseEq
public import proofs.«01_k».proof.Proof.ArgOrd
public import Idealize.ShloMosaic.PureOps.Ideal.Laws
public import Idealize.ShloMosaic.Lib.Pipeline.Value

@[expose] public section

set_option maxRecDepth 16384

noncomputable section

namespace Cert.KernelIdeal.Pf

open Cert.KernelIdeal Cert.KernelIdeal.Gen Cert.Arg
open Idealize.ShloMosaic Idealize.ShloMosaic.TcCoe
open Idealize.ShloMosaic.Pipeline (Window)

/-! ## The blocks of the two arrays -/

section Blocks
variable {F : FTy → Type} [FloatOps F]
variable (V : (c : Dev nD) → (b : Ref sig .tc) → Buf (Elt F) ((c : Thread nD τ).loc b))

theorem index1_0_row : ∀ t : Fin grid1.N, win1_0.index t 0 = 0 := by decide +kernel
theorem index1_0_col : ∀ t : Fin grid1.N, win1_0.index t 1 = t.val := by decide +kernel
theorem index1_1_row : ∀ t : Fin grid1.N, win1_1.index t 0 = 0 := by decide +kernel
theorem index1_1_col : ∀ t : Fin grid1.N, win1_1.index t 1 = t.val := by decide +kernel

/-- An element of the argument's block at point `t`. -/
theorem xB_apply (c : Dev nD) (t : Fin cfg1.N) (j : S64x25600.Idx) (h : (j 1).val + 25600 * t.val < 1000000) :
    xB V c t j = (V c main_arg0 : S64x1000000.Idx → Elt F .f32) (at2 (j 0) ((j 1).val + 25600 * t.val) h) := by
  unfold xB Window.fill
  rw [dif_pos (moved1_0 t j h), View.read_apply]
  generalize hy : (fun a => (⟨(j a).val, _⟩ : Fin _) : (win1_0.xblock (grid1.coords t)).Idx) = y
  have e0 := Window.rect_emb_val win1_0 t y 0
  have e1 := Window.rect_emb_val win1_0 t y 1
  rw [index1_0_row] at e0
  rw [index1_0_col] at e1
  have y0 : (y 0 : ℕ) = (j 0 : ℕ) := by rw [← hy]
  have y1 : (y 1 : ℕ) = (j 1 : ℕ) := by rw [← hy]
  change (V c main_arg0 : S64x1000000.Idx → Elt F .f32) ((win1_0.rect t).emb y) = _
  generalize (win1_0.rect t).emb y = z at e0 e1 ⊢
  have e0' : (z 0 : ℕ) = y 0 := by rw [e0, Nat.zero_mul, Nat.zero_add]
  have e1' : (z 1 : ℕ) = t.val * 25600 + y 1 := e1
  congr 1
  funext a
  match a with
  | ⟨0, _⟩ => exact Fin.ext (e0'.trans y0)
  | ⟨1, _⟩ => exact Fin.ext (show (z 1 : ℕ) = (j 1).val + 25600 * t.val by omega)

/-- An element of the noise's block at point `t`. -/
theorem gB_apply (c : Dev nD) (t : Fin cfg1.N) (j : S64x25600.Idx) (h : (j 1).val + 25600 * t.val < 1000000) :
    gB V c t j = (V c main_v0 : S64x1000000.Idx → Elt F .f32) (at2 (j 0) ((j 1).val + 25600 * t.val) h) := by
  unfold gB Window.fill
  rw [dif_pos (moved1_1 t j h), View.read_apply]
  generalize hy : (fun a => (⟨(j a).val, _⟩ : Fin _) : (win1_1.xblock (grid1.coords t)).Idx) = y
  have e0 := Window.rect_emb_val win1_1 t y 0
  have e1 := Window.rect_emb_val win1_1 t y 1
  rw [index1_1_row] at e0
  rw [index1_1_col] at e1
  have y0 : (y 0 : ℕ) = (j 0 : ℕ) := by rw [← hy]
  have y1 : (y 1 : ℕ) = (j 1 : ℕ) := by rw [← hy]
  change (V c main_v0 : S64x1000000.Idx → Elt F .f32) ((win1_1.rect t).emb y) = _
  generalize (win1_1.rect t).emb y = z at e0 e1 ⊢
  have e0' : (z 0 : ℕ) = y 0 := by rw [e0, Nat.zero_mul, Nat.zero_add]
  have e1' : (z 1 : ℕ) = t.val * 25600 + y 1 := e1
  congr 1
  funext a
  match a with
  | ⟨0, _⟩ => exact Fin.ext (e0'.trans y0)
  | ⟨1, _⟩ => exact Fin.ext (show (z 1 : ℕ) = (j 1).val + 25600 * t.val by omega)

end Blocks

/-! ## One block -/

theorem ninf : Ideal.ofBits .f32 0xFF800000#32 = (⊥ : EReal) := by simp [Ideal.ofBits, Ideal.ieee]

theorem dropK_iff (i : S64x25600.Idx) (j : S64.Idx) : reduces_S64x25600_S64.drop i = j ↔ (i 0).val = (j 0).val := by
  have hv := Shape.Reduces.drop_apply_val_of_eq reduces_S64x25600_S64 i 0 0
  constructor
  · rintro rfl; exact hv.symm
  · intro h
    funext a
    match a with
    | ⟨0, _⟩ => exact Fin.ext (hv.trans h)

/-- Row `r`, column `k` of a block. -/
def blk2 (r : Fin 64) (k : ℕ) (h : k < 25600) : S64x25600.Idx := fun | 0 => r | 1 => (⟨k, h⟩ : Fin 25600)

/-- Row `r` of a column of one. -/
def unit2 (r : Fin 64) : S64x1.Idx := fun | 0 => r | 1 => (⟨0, by decide⟩ : Fin 1)

/-- The row maximum, broadcast back over the block. -/
theorem bcast_apply (x : S64.Idx → Ideal .f32) (i : S64x25600.Idx) (j : S64.Idx) (h : (i 0).val = (j 0).val) :
    broadcastTo S64x25600 (shapeCast S64x1 x shapeCasts_S64_S64x1) broadcasts_S64x1_S64x25600 i = x j := by
  rw [broadcastTo_apply _ _ i (unit2 (i 0))
    (fun a => by match a with | ⟨0, _⟩ => rfl | ⟨1, _⟩ => rfl)]
  refine shapeCast_apply _ _ _ j ?_
  rw [Shape.rowMajor_val_one, Shape.rowMajor_val_two]
  show (j 0).val = (i 0).val * 1 + 0
  omega

/-- What a block contributes to a row: its greatest score and the least column that has it. -/
theorem block_row (i : grid1.Coords) (x g : Vec Ideal S64x25600 .f32) (j : S64.Idx) (s : ℕ → EReal)
    (hs : ∀ k : S64x25600.Idx, (k 0).val = (j 0).val → k1_pay2 i x g k = s ((k 1).val + 25600 * (i 0).val))
    (hpast : ∀ c, 1000000 ≤ c → s c = ⊥) :
    ∃ l, k1_pay4 i x g j = BitVec.ofNat 32 l ∧ On s (25600 * (i 0).val) (25600 * ((i 0).val + 1)) (k1_pay3 i x g j) l := by
  classical
  have hi : (i 0).val < 40 := (i 0).isLt
  have hB : k1_pay3 i x g j = (Finset.univ.filter fun k => reduces_S64x25600_S64.drop k = j).fold max (⊥ : EReal) (k1_pay2 i x g) := by
    unfold k1_pay3
    refine (multiReduction_maximumf_eq_fold _ _ _ _ _ j).trans ?_
    rw [← ninf]
    rfl
  generalize hb : k1_pay3 i x g = B at hB
  have hR : k1_pay4 i x g j = (Finset.univ.filter fun k => reduces_S64x25600_S64.drop k = j).fold (IKind.op .minsi) 2147483647#32
      (select (cmpf .oeq (k1_pay2 i x g) (broadcastTo S64x25600 (shapeCast S64x1 B shapeCasts_S64_S64x1) broadcasts_S64x1_S64x25600))
        (k1_pay1 i) (broadcast S64x25600 1000000#32)) := by
    unfold k1_pay4
    rw [hb]
    exact multiReductionI_eq_fold _ _ _ _ _ j
  refine block_on _ _ _ (fun k => (k 1).val + 25600 * (i 0).val) s _ _ (by omega) (by omega) (B j) hB _ hR (fun k hk => ?_) (fun k hk => ?_)
    (fun c h1 h2 => ?_) hpast
  · have h := (dropK_iff k j).mp (Finset.mem_filter.mp hk).2
    have hk1 : (k 1).val < 25600 := (k 1).isLt
    refine ⟨?_, ?_, hs k h⟩
    · show 25600 * (i 0).val ≤ (k 1).val + 25600 * (i 0).val; omega
    · show (k 1).val + 25600 * (i 0).val < _; omega
  · have h := (dropK_iff k j).mp (Finset.mem_filter.mp hk).2
    have hc : cmpf .oeq (k1_pay2 i x g) (broadcastTo S64x25600 (shapeCast S64x1 B shapeCasts_S64_S64x1) broadcasts_S64x1_S64x25600) k
        = BitVec.ofBool (decide ((k1_pay2 i x g k : EReal) = B j)) := by
      show Ideal.cmp .oeq (k1_pay2 i x g k) (broadcastTo S64x25600 (shapeCast S64x1 B shapeCasts_S64_S64x1) broadcasts_S64x1_S64x25600 k) = _
      rw [bcast_apply B k j h]; rfl
    constructor
    · intro e
      show Scalar.select (cmpf .oeq _ _ k) (k1_pay1 i k) 1000000#32 = _
      rw [hc, decide_eq_true e, col_apply]; rfl
    · intro e
      show Scalar.select (cmpf .oeq _ _ k) (k1_pay1 i k) 1000000#32 = _
      rw [hc, decide_eq_false e]; rfl
  · refine ⟨blk2 (j 0) (c - 25600 * (i 0).val) (by omega), Finset.mem_filter.mpr ⟨Finset.mem_univ _, (dropK_iff _ j).mpr rfl⟩, ?_⟩
    show c - 25600 * (i 0).val + 25600 * (i 0).val = c
    omega

/-! ## The running pair -/

variable (V : (c : Dev nD) → (b : Ref sig .tc) → Buf (Elt Ideal) ((c : Thread nD τ).loc b))

/-- The sums of two arrays. -/
def sums (x g : S64x1000000.Idx → EReal) : S64x1000000.Idx → EReal := fun i => x i + g i

/-- The scores the call's two arrays give. -/
def sc (c : Dev nD) : S64x1000000.Idx → EReal := sums (V c main_arg0) (V c main_v0)

/-- The masked score at point `t` is the row's score. -/
theorem pay2_row (c : Dev nD) (t : Fin cfg1.N) (j : S64.Idx) (k : S64x25600.Idx) (h : (k 0).val = (j 0).val) :
    k1_pay2 (grid1.coords t) (xB V c t) (gB V c t) k = row (sc V c) (j 0) ((k 1).val + 25600 * t.val) := by
  rw [score_apply, coords1]
  by_cases hk : (k 1).val + 25600 * t.val < 1000000
  · rw [if_pos hk, xB_apply V c t k hk, gB_apply V c t k hk]
    unfold row
    rw [dif_pos hk]
    have e : (k 0 : Fin 64) = j 0 := Fin.ext h
    rw [e]; rfl
  · rw [if_neg hk]
    exact ninf.trans (row_past (sc V c) (j 0) ((k 1).val + 25600 * t.val) (not_lt.mp hk)).symm

/-- The first point's step: the block's pair. -/
theorem step_first (i : grid1.Coords) (x g : Vec Ideal S64x25600 .f32) (v : Vec Ideal S64 .f32) (k : Vec Ideal S64 .i32) (h : (i 0).val = 0) :
    stepV i x g v = k1_pay3 i x g ∧ stepI i x g v k = k1_pay4 i x g := by
  unfold stepV stepI
  rw [if_pos h, if_pos h]
  unfold k1_pay5 k1_pay6
  exact ⟨shapeCast_self (k1_pay3 i x g) _, shapeCast_self (k1_pay4 i x g) _⟩

/-- A selection by a comparison, entry by entry. -/
theorem pick_at {α : Type} (B v : S64.Idx → Ideal .f32) (a b : S64.Idx → α) (j : S64.Idx) :
    (v j < (B j : EReal) → shapeCast S64 (select (cmpf .ogt B v) a b) shapeCasts_S64_S64 j = a j)
      ∧ (¬v j < (B j : EReal) → shapeCast S64 (select (cmpf .ogt B v) a b) shapeCasts_S64_S64 j = b j) := by
  rw [shapeCast_self]
  have e : select (cmpf .ogt B v) a b j = Scalar.select (BitVec.ofBool (decide (v j < (B j : EReal)))) (a j) (b j) := rfl
  rw [e]
  exact ⟨fun h => by rw [decide_eq_true h]; rfl, fun h => by rw [decide_eq_false h]; rfl⟩

/-- A later point's step: the block's pair where its value is greater, else the pair held. -/
theorem step_later (i : grid1.Coords) (x g : Vec Ideal S64x25600 .f32) (v : Vec Ideal S64 .f32) (k : Vec Ideal S64 .i32) (h : (i 0).val ≠ 0)
    (j : S64.Idx) :
    (v j < (k1_pay3 i x g j : EReal) → stepV i x g v j = k1_pay3 i x g j ∧ stepI i x g v k j = k1_pay4 i x g j)
      ∧ (¬v j < (k1_pay3 i x g j : EReal) → stepV i x g v j = v j ∧ stepI i x g v k j = k j) := by
  have h1 := pick_at (k1_pay3 i x g) v (k1_pay3 i x g) v j
  have h2 := pick_at (k1_pay3 i x g) v (k1_pay4 i x g) k j
  unfold stepV stepI
  rw [if_neg h, if_neg h]
  unfold k1_pay8 k1_pay9 k1_pay7
  exact ⟨fun hlt => ⟨h1.1 hlt, h2.1 hlt⟩, fun hlt => ⟨h1.2 hlt, h2.2 hlt⟩⟩

/-- After each point the running pair is the argmax of the columns so far. -/
theorem acc_on (c : Dev nD) (j : S64.Idx) : ∀ t : ℕ, t < 40 →
    ∃ k, (acc V c (t + 1)).2 j = BitVec.ofNat 32 k ∧ On (row (sc V c) (j 0)) 0 (25600 * (t + 1)) ((acc V c (t + 1)).1 j) k := by
  intro t
  induction t with
  | zero =>
    intro ht
    have hN : 0 < cfg1.N := by rw [show cfg1.N = 40 from N_1]; decide
    have e : acc V c (0 + 1) = (_, _) := acc_succ V c ⟨0, hN⟩
    have hc : ((grid1.coords ⟨0, hN⟩) 0 : ℕ) = 0 := coords1 ⟨0, hN⟩
    obtain ⟨l, hl, hon⟩ := block_row (grid1.coords ⟨0, hN⟩) (xB V c ⟨0, hN⟩) (gB V c ⟨0, hN⟩) j (row (sc V c) (j 0))
      (fun k hk => (pay2_row V c ⟨0, hN⟩ j k hk).trans (by rw [hc])) (row_past _ _)
    rw [hc, Nat.mul_zero] at hon
    rw [e]
    generalize acc V c (⟨0, hN⟩ : Fin cfg1.N).val = A
    obtain ⟨h1, h2⟩ := step_first (grid1.coords ⟨0, hN⟩) (xB V c ⟨0, hN⟩) (gB V c ⟨0, hN⟩) A.1 A.2 hc
    exact ⟨l, (congrFun h2 j).trans hl, (congrArg (fun M => On _ 0 _ M l) (congrFun h1 j)).mpr hon⟩
  | succ t ih =>
    intro ht
    obtain ⟨k, hk, hon⟩ := ih (by omega)
    have hN : t + 1 < cfg1.N := by rw [show cfg1.N = 40 from N_1]; exact ht
    have e : acc V c (t + 1 + 1) = (stepV (grid1.coords ⟨t + 1, hN⟩) (xB V c ⟨t + 1, hN⟩) (gB V c ⟨t + 1, hN⟩) (acc V c (t + 1)).1, _) :=
      acc_succ V c ⟨t + 1, hN⟩
    have hc : ((grid1.coords ⟨t + 1, hN⟩) 0 : ℕ) = t + 1 := coords1 ⟨t + 1, hN⟩
    have hc0 : ((grid1.coords ⟨t + 1, hN⟩) 0 : ℕ) ≠ 0 := by rw [hc]; omega
    obtain ⟨l, hl, hbl⟩ := block_row (grid1.coords ⟨t + 1, hN⟩) (xB V c ⟨t + 1, hN⟩) (gB V c ⟨t + 1, hN⟩) j (row (sc V c) (j 0))
      (fun k hk => (pay2_row V c ⟨t + 1, hN⟩ j k hk).trans (by rw [hc])) (row_past _ _)
    rw [hc] at hbl
    rw [e]
    change ∃ k, stepI (grid1.coords ⟨t + 1, hN⟩) (xB V c ⟨t + 1, hN⟩) (gB V c ⟨t + 1, hN⟩) (acc V c (t + 1)).1 (acc V c (t + 1)).2 j = _ ∧ _
    generalize acc V c (t + 1) = A at hk hon ⊢
    obtain ⟨h1, h2⟩ := step_later (grid1.coords ⟨t + 1, hN⟩) (xB V c ⟨t + 1, hN⟩) (gB V c ⟨t + 1, hN⟩) A.1 A.2 hc0 j
    by_cases hlt : A.1 j < (k1_pay3 (grid1.coords ⟨t + 1, hN⟩) (xB V c ⟨t + 1, hN⟩) (gB V c ⟨t + 1, hN⟩) j : EReal)
    · obtain ⟨g1, g2⟩ := h1 hlt
      exact ⟨l, g2.trans hl, (congrArg (fun M => On _ 0 _ M l) g1).mpr (hon.later hbl hlt)⟩
    · obtain ⟨g1, g2⟩ := h2 hlt
      exact ⟨k, g2.trans hk, (congrArg (fun M => On _ 0 _ M k) g1).mpr (hon.earlier hbl hlt)⟩

/-- The result: each row's argmax. -/
theorem out_on (c : Dev nD) (j : S64.Idx) :
    ∃ M k, (acc V c 40).2 j = BitVec.ofNat 32 k ∧ On (row (sc V c) (j 0)) 0 (25600 * 40) M k := by
  have h : ∀ n, n = 39 + 1 → ∃ M k, (acc V c n).2 j = BitVec.ofNat 32 k ∧ On (row (sc V c) (j 0)) 0 (25600 * n) M k := by
    rintro n rfl
    obtain ⟨k, h, hon⟩ := acc_on V c j 39 (by decide)
    exact ⟨_, k, h, hon⟩
  exact h 40 (by decide)

end Cert.KernelIdeal.Pf

end
-- ==== Proof.ArgRef.lean ====
/-
  The reference's index: the argmax, by the order statement, of each row of the scores.
-/
module

public import proofs.«01_k».proof.Proof.RefRead
public import proofs.«01_k».proof.Proof.ArgOrd
public import Idealize.ShloMosaic.PureOps.Ideal.Laws

@[expose] public section

set_option maxRecDepth 16384

noncomputable section

namespace Cert.ReferenceIdeal.Pf

open Cert.ReferenceIdeal Cert.ReferenceIdeal.Gen Cert.Words Cert.Arg
open Idealize.ShloMosaic

/-- The reducer keeps the greater value, and on equal values the smaller column. -/
theorem reducer_eq : reducer_argmax_f32_i32 (F := Ideal) = keep := by
  funext a b
  obtain ⟨x, i⟩ := a
  obtain ⟨y, j⟩ := b
  have h : reducer_argmax_f32_i32 (F := Ideal) (x, i) (y, j)
      = (Scalar.select (IntOp.ori (BitVec.ofBool (decide (y < x))) (BitVec.ofBool (decide (x ≠ x)))) x y,
         Scalar.select (IntOp.ori (IntOp.ori (BitVec.ofBool (decide (y < x))) (BitVec.ofBool (decide (x ≠ x))))
           (IntOp.andi (BitVec.ofBool (decide (x = y))) (BitVec.ofBool (i.slt j)))) i j) := rfl
  rw [h]
  unfold keep
  have hne : decide (x ≠ x) = false := by simp
  rw [hne]
  by_cases hlt : y < x
  · rw [decide_eq_true hlt, if_pos (.inl hlt)]
    cases decide (x = y) <;> cases i.slt j <;> rfl
  · rw [decide_eq_false hlt]
    by_cases he : x = y
    · rw [decide_eq_true he]
      by_cases hs : i.slt j = true
      · rw [if_pos (.inr ⟨he, hs⟩), hs]; exact Prod.ext he.symm rfl
      · rw [if_neg (by simp [hlt, hs]), Bool.eq_false_of_not_eq_true hs]; rfl
    · rw [decide_eq_false he, if_neg (by simp [hlt, he])]
      cases i.slt j <;> rfl

/-- A row of the source, by the reduction's result index. -/
theorem drop_iff (i : S64x1000000.Idx) (j : S64.Idx) : reducesTo_S64x1000000_S64_d1.drop i = j ↔ (i 0).val = (j 0).val := by
  have hv := Shape.ReducesTo.drop_apply_val_of_eq reducesTo_S64x1000000_S64_d1 i 0 0
  constructor
  · rintro rfl; exact hv.symm
  · intro h
    funext a
    match a with
    | ⟨0, _⟩ => exact Fin.ext (hv.trans h)

theorem first_bot : (constant S_ .f32 0xFF800000#32 : FVec Ideal S_ .f32) (Shape.Idx.first h_S_) = (⊥ : EReal) := by
  show Ideal.ofBits .f32 0xFF800000#32 = ⊥
  simp [Ideal.ofBits, Ideal.ieee]

/-- The pair is a plain fold. -/
theorem pair_eq (x : FVec Ideal S64x1000000 .f32) :
    Host.argReduce (F := Ideal) reducer_argmax_f32_i32 x (iotaInDim S64x1000000 32 1) (constant S_ .f32 0xFF800000#32)
        (constantI S_ 32 0#32) reducesTo_S64x1000000_S64_d1 h_S_
      = Host.reduce2 (α := Ideal .f32) keep x (iotaInDim S64x1000000 32 1) (constant S_ .f32 0xFF800000#32)
        (constantI S_ 32 0#32) reducesTo_S64x1000000_S64_d1 h_S_ := by
  rw [Ideal.argReduce_eq_reduce2, reducer_eq]

/-- A fold that keeps the greater value, row by row. -/
theorem fold_on (x : FVec Ideal S64x1000000 .f32) (ix : S_.Idx → EReal) (iy : S_.Idx → BitVec 32) (j : S64.Idx)
    (hx : ix (Shape.Idx.first h_S_) = ⊥) (hy : iy (Shape.Idx.first h_S_) = 0#32)
    (P : S64.Idx → EReal × BitVec 32)
    (hP : P = Host.reduce2 (α := EReal) keep x (iotaInDim S64x1000000 32 1) ix iy reducesTo_S64x1000000_S64_d1 h_S_) :
    ∃ M k, (P j).2 = BitVec.ofNat 32 k ∧ On (row x (j 0)) 0 1000000 M k := by
  refine reduce2_keep x (iotaInDim S64x1000000 32 1) ix iy reducesTo_S64x1000000_S64_d1 h_S_ j (row x (j 0)) (fun i => (i 1).val) hx hy (fun i hi => ?_) (fun c hc => ⟨at2 (j 0) c hc, ?_, rfl⟩)
    P hP
  · have h := (drop_iff i j).mp hi
    have hc : (i 1).val < 1000000 := (i 1).isLt
    refine ⟨hc, ?_, rfl⟩
    unfold row
    rw [dif_pos hc]
    congr 1
    funext a
    match a with
    | ⟨0, _⟩ => exact Fin.ext h
    | ⟨1, _⟩ => rfl
  · exact (drop_iff _ j).mpr rfl

/-- Each row's pair. -/
def argPair (x : FVec Ideal S64x1000000 .f32) : S64.Idx → Ideal .f32 × BitVec 32 :=
  Host.argReduce (F := Ideal) (φ := .f32) reducer_argmax_f32_i32 x (iotaInDim S64x1000000 32 1) (constant S_ .f32 0xFF800000#32)
    (constantI S_ 32 0#32) reducesTo_S64x1000000_S64_d1 h_S_

theorem argOf_snd (x : FVec Ideal S64x1000000 .f32) : argOf x = fun j => (argPair x j).2 := by
  delta argOf argPair
  exact Eq.refl _

theorem argPair_on (x : FVec Ideal S64x1000000 .f32) (j : S64.Idx) :
    ∃ M k, (argPair x j).2 = BitVec.ofNat 32 k ∧ On (row x (j 0)) 0 1000000 M k :=
  fold_on x _ _ j first_bot rfl (argPair x) (pair_eq x)

/-- The index of a row is the column of its argmax. -/
theorem argOf_on (x : FVec Ideal S64x1000000 .f32) (j : S64.Idx) :
    ∃ M k, argOf x j = BitVec.ofNat 32 k ∧ On (row x (j 0)) 0 1000000 M k := by
  obtain ⟨M, k, h, hon⟩ := argPair_on x j
  exact ⟨M, k, (congrFun (argOf_snd x) j).trans h, hon⟩

end Cert.ReferenceIdeal.Pf

end
-- ==== Proof.Same.lean ====
/-
  The two programs' results are equal: the scores are the same numbers, and a row has one argmax.
-/
module

public import proofs.«01_k».proof.Proof.ArgKer
public import proofs.«01_k».proof.Proof.ArgRef

@[expose] public section

set_option maxRecDepth 16384

noncomputable section

namespace Cert.Same

open Idealize.ShloMosaic Idealize.ShloMosaic.TcCoe Cert.Words Cert.Arg

/-- The reference's noise is the kernel's. -/
theorem gumF_eq (w : W) : ReferenceIdeal.Pf.gumF (F := Ideal) w = gum w := rfl

/-- The scores of the two programs. -/
theorem scores_eq (X : FVec Ideal ReferenceIdeal.S64x1000000 .f32) :
    (ReferenceIdeal.Pf.scores X : (⟨2, ![64, 1000000]⟩ : Shape).Idx → EReal)
      = KernelIdeal.Pf.sums X (KernelIdeal.Pf.nzArr (F := Ideal)) := by
  funext i
  show (ReferenceIdeal.Pf.gumF (F := Ideal) (bits (pos (i 0).val (i 1).val)) : EReal) + X i = X i + KernelIdeal.Pf.nzArr (F := Ideal) i
  rw [KernelIdeal.Pf.nzArr_apply, gumF_eq, add_comm]

/-- One argmax, however it is found. -/
theorem argmax_eq (X : FVec Ideal ReferenceIdeal.S64x1000000 .f32) (A : ReferenceIdeal.S64.Idx → BitVec 32)
    (h : ∀ j : ReferenceIdeal.S64.Idx, ∃ M k, A j = BitVec.ofNat 32 k
      ∧ On (row (KernelIdeal.Pf.sums X (KernelIdeal.Pf.nzArr (F := Ideal))) (j 0)) 0 (25600 * 40) M k) :
    ReferenceIdeal.Pf.argOf (ReferenceIdeal.Pf.scores X) = A := by
  funext j
  obtain ⟨M, k, hk, hon⟩ := h j
  obtain ⟨M', k', hk', hon'⟩ := ReferenceIdeal.Pf.argOf_on (ReferenceIdeal.Pf.scores X) j
  have hs : row (ReferenceIdeal.Pf.scores X) (j 0) = row (KernelIdeal.Pf.sums X (KernelIdeal.Pf.nzArr (F := Ideal))) (j 0) :=
    congrArg (fun f => row f (j 0)) (scores_eq X)
  rw [hs] at hon'
  have e : k' = k := (hon'.pad (by decide) fun c hc => row_past _ _ c hc).unique hon
  rw [hk', hk, e]

/-- The kernel's result is the reference's. -/
theorem out_eq (m : (ℓ : Loc KernelIdeal.nD KernelIdeal.τ KernelIdeal.sig) → Buf (Elt Ideal) ℓ) (c : Dev KernelIdeal.nD)
    (X : FVec Ideal ReferenceIdeal.S64x1000000 .f32)
    (hX : X = m ((c : Thread KernelIdeal.nD KernelIdeal.τ).loc KernelIdeal.main_arg0)) :
    ReferenceIdeal.Pf.argOf (ReferenceIdeal.Pf.scores X) = KernelIdeal.Pf.outArr m c := by
  refine argmax_eq X _ fun j => ?_
  have h := KernelIdeal.Pf.out_on (fun c b => KernelIdeal.Pf.W1 m c b) c j
  have e0 : KernelIdeal.Pf.W1 m c KernelIdeal.main_arg0 = X :=
    (KernelIdeal.Pf.W1_of m c KernelIdeal.main_arg0 (by decide)).trans hX.symm
  have e1 : KernelIdeal.Pf.W1 m c KernelIdeal.main_v0 = KernelIdeal.Pf.nzArr (F := Ideal) := KernelIdeal.Pf.W1_noise m c
  have e : KernelIdeal.Pf.sc (fun c b => KernelIdeal.Pf.W1 m c b) c = KernelIdeal.Pf.sums X (KernelIdeal.Pf.nzArr (F := Ideal)) := by
    unfold KernelIdeal.Pf.sc
    exact congrArg₂ KernelIdeal.Pf.sums e0 e1
  rw [e] at h
  exact h

end Cert.Same

end
-- ==== Proof.lean ====
/-
  The claims of `Cert.Claim`, put together from the modules of Proof/: the frames of the three
  programs, and the equality of the kernel's and the reference's results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RunBits
public import proofs.«01_k».proof.Proof.RunIdeal
public import proofs.«01_k».proof.Proof.RefRead
public import proofs.«01_k».proof.Proof.Same

@[expose] public section

noncomputable section

namespace Cert.Proof

open Idealize.ShloMosaic Idealize.ShloMosaic.TcCoe Idealize.ShloMosaic.StableHlo Idealize.SL.Sem

/-- The kernel as printed runs, leaves its argument unchanged and every counter at zero. -/
theorem frame_kernel : quiescent_Kernel := fun m g _ =>
  (θ_run _ _ _).mono (fun _ h => ⟨fun c => (h.1 c).2, h.2⟩) (Kernel.Pf.run m g)

/-- So does the kernel over the extended reals. -/
theorem frame_ideal : quiescent_KernelIdeal := fun m g _ =>
  (θ_run _ _ _).mono (fun _ h => ⟨fun c => (h.1 c).2, h.2⟩) (KernelIdeal.Pf.run m g)

/-- What a run of the reference leaves: the argmax of the scores, and its argument unchanged. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_v9)
          = ReferenceIdeal.Pf.argOf (ReferenceIdeal.Pf.scores (F := Ideal) (m ((c.tc : Thread ReferenceIdeal.nD ReferenceIdeal.τ).loc ReferenceIdeal.main_arg0)))
        ∧ r.2.mem ((c.tc : Thread ReferenceIdeal.nD ReferenceIdeal.τ).loc ReferenceIdeal.main_arg0)
          = m ((c.tc : Thread ReferenceIdeal.nD ReferenceIdeal.τ).loc ReferenceIdeal.main_arg0))
      ∧ r.2.sem = fun _ => 0) :=
  (θ_run _ _ _).mono (fun _ h => ⟨fun c => ⟨
      (h.1 c ReferenceIdeal.main_v9).trans (ReferenceIdeal.Pf.ops_result (launchContents m c)),
      (h.1 c ReferenceIdeal.main_arg0).trans (ReferenceIdeal.Pf.ops_arg (launchContents m c))⟩, h.2⟩)
    (ReferenceIdeal.Pf.run m g)

/-- The reference's frame. -/
theorem frame_reference : quiescent_ReferenceIdeal := fun m g _ =>
  (θ_run _ _ _).mono (fun _ h => ⟨fun c => (h.1 c).2, h.2⟩) (reference_run m g)

/-- From equal arguments, equal results. -/
theorem values : algebraic_KernelIdeal_ReferenceIdeal := fun m g m' g' _ hm =>
  ⟨fun c => KernelIdeal.Pf.outArr m c,
    (θ_run _ _ _).mono (fun _ h c => h.1 c) (KernelIdeal.Pf.run m g),
    (θ_run _ _ _).mono (fun _ h c => ⟨(h.1 c).1.trans (Same.out_eq m c _ (hm c)), (h.1 c).2⟩) (reference_run m' g')⟩

theorem claim : Cert.Claim :=
  ⟨Cert.Kernel.Gen.facts, Cert.KernelIdeal.Gen.facts, Cert.ReferenceIdeal.Gen.facts,
    frame_kernel, frame_ideal, frame_reference, trivial, values⟩

end Cert.Proof

end
